-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 512]⟩ ⟨2, ![4096, 512]⟩ 0 8 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 512]⟩ ⟨2, ![4096, 512]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x512 : Shape := ⟨2, ![512, 512]⟩
abbrev S8x512 : Shape := ⟨2, ![8, 512]⟩
abbrev S1x512 : Shape := ⟨2, ![1, 512]⟩
abbrev S8 : Shape := ⟨1, ![8]⟩
abbrev S_ : Shape := ⟨0, ![]⟩
abbrev S512 : Shape := ⟨1, ![512]⟩
abbrev S1 : Shape := ⟨1, ![1]⟩
abbrev S8x1 : Shape := ⟨2, ![8, 1]⟩

abbrev nBuf : Space → Nat
  | .hbm => 2
  | .vmem => 4
  | .smem => 0
  | _ => 0

abbrev bufTy : (tb : Table) → Fin (tcTables nBuf tb) → BufTy
  | .hbm, ⟨0, _⟩ => ⟨S512x512, .f32⟩
  | .hbm, ⟨1, _⟩ => ⟨S512x512, .f32⟩
  | .local _ .vmem, ⟨0, _⟩ => ⟨S512x512, .f32⟩
  | .local _ .vmem, ⟨1, _⟩ => ⟨S512x512, .f32⟩
  | .local _ .vmem, ⟨2, _⟩ => ⟨S8x512, .f32⟩
  | .local _ .vmem, ⟨3, _⟩ => ⟨S1x512, .f32⟩
  | _, _ => ⟨S512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 2 → Bool
  | ⟨0, _⟩ => true
  | ⟨1, _⟩ => false
  | _ => false

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  (ofTc nBuf bufTy 2 18 bufScoped semScoped dmaSemScoped tileCredit tileCredit_eq_zero tileCredit_pos).withBarriers [(0, 1)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 1

abbrev nD : Nat := 8
abbrev τ : Topo := Topo.v7x

variable {F : FTy → Type} [FloatOps F]

abbrev grid0 : Pipeline.Grid := .none

def k0_dev1 : Nat :=
  let c0_i32_2 : BitVec 32 := 0#32
  let c0_i32 : BitVec 32 := 0#32
  let c1_i32_1 : BitVec 32 := 1#32
  let v4 : BitVec 32 := Scalar.muli c0_i32 c1_i32_1
  let v5 : BitVec 32 := Scalar.addi c0_i32_2 v4
  v5.toNat
def k0_dev2 : Nat :=
  let c0_i32_6 : BitVec 32 := 0#32
  let c1_i32_4 : BitVec 32 := 1#32
  let c1_i32_5 : BitVec 32 := 1#32
  let v6 : BitVec 32 := Scalar.muli c1_i32_4 c1_i32_5
  let v7 : BitVec 32 := Scalar.addi c0_i32_6 v6
  v7.toNat
def k0_dev3 : Nat :=
  let c0_i32_9 : BitVec 32 := 0#32
  let c2_i32 : BitVec 32 := 2#32
  let c1_i32_8 : BitVec 32 := 1#32
  let v8 : BitVec 32 := Scalar.muli c2_i32 c1_i32_8
  let v9 : BitVec 32 := Scalar.addi c0_i32_9 v8
  v9.toNat
def k0_dev4 : Nat :=
  let c0_i32_12 : BitVec 32 := 0#32
  let c3_i32 : BitVec 32 := 3#32
  let c1_i32_11 : BitVec 32 := 1#32
  let v10 : BitVec 32 := Scalar.muli c3_i32 c1_i32_11
  let v11 : BitVec 32 := Scalar.addi c0_i32_12 v10
  v11.toNat
def k0_dev5 : Nat :=
  let c0_i32_15 : BitVec 32 := 0#32
  let c4_i32 : BitVec 32 := 4#32
  let c1_i32_14 : BitVec 32 := 1#32
  let v12 : BitVec 32 := Scalar.muli c4_i32 c1_i32_14
  let v13 : BitVec 32 := Scalar.addi c0_i32_15 v12
  v13.toNat
def k0_dev6 : Nat :=
  let c0_i32_18 : BitVec 32 := 0#32
  let c5_i32 : BitVec 32 := 5#32
  let c1_i32_17 : BitVec 32 := 1#32
  let v14 : BitVec 32 := Scalar.muli c5_i32 c1_i32_17
  let v15 : BitVec 32 := Scalar.addi c0_i32_18 v14
  v15.toNat
def k0_dev7 : Nat :=
  let c0_i32_21 : BitVec 32 := 0#32
  let c6_i32 : BitVec 32 := 6#32
  let c1_i32_20 : BitVec 32 := 1#32
  let v16 : BitVec 32 := Scalar.muli c6_i32 c1_i32_20
  let v17 : BitVec 32 := Scalar.addi c0_i32_21 v16
  v17.toNat
def k0_dev8 : Nat :=
  let c0_i32_24 : BitVec 32 := 0#32
  let c7_i32 : BitVec 32 := 7#32
  let c1_i32_23 : BitVec 32 := 1#32
  let v18 : BitVec 32 := Scalar.muli c7_i32 c1_i32_23
  let v19 : BitVec 32 := Scalar.addi c0_i32_24 v18
  v19.toNat
def k0_cond1 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_29 : BitVec 32 := 1#32
  let v27 : BitVec 1 := Scalar.cmpi .slt v2 c1_i32_29
  let v28 : BitVec 32 := Scalar.extui v27
  let c0_i32_30 : BitVec 32 := 0#32
  let v29 : BitVec 1 := Scalar.cmpi .ne v28 c0_i32_30
  v29

def k0_off1 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off2 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_86 : BitVec 32 := 0#32
  ![v2.toNat, 0]
def k0_dev9 : Nat :=
  let c0_i32_85 : BitVec 32 := 0#32
  let c1_i32_83 : BitVec 32 := 1#32
  let c1_i32_84 : BitVec 32 := 1#32
  let v114 : BitVec 32 := Scalar.muli c1_i32_83 c1_i32_84
  let v115 : BitVec 32 := Scalar.addi c0_i32_85 v114
  v115.toNat
def k0_cond2 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_31 : BitVec 32 := 2#32
  let v30 : BitVec 1 := Scalar.cmpi .slt v2 c2_i32_31
  let v31 : BitVec 32 := Scalar.extui v30
  let c0_i32_32 : BitVec 32 := 0#32
  let v32 : BitVec 1 := Scalar.cmpi .ne v31 c0_i32_32
  v32

def k0_off3 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off4 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_86 : BitVec 32 := 0#32
  ![v2.toNat, 0]
def k0_dev10 : Nat :=
  let c0_i32_85 : BitVec 32 := 0#32
  let c2_i32_83 : BitVec 32 := 2#32
  let c1_i32_84 : BitVec 32 := 1#32
  let v114 : BitVec 32 := Scalar.muli c2_i32_83 c1_i32_84
  let v115 : BitVec 32 := Scalar.addi c0_i32_85 v114
  v115.toNat
def k0_cond3 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_33 : BitVec 32 := 3#32
  let v33 : BitVec 1 := Scalar.cmpi .slt v2 c3_i32_33
  let v34 : BitVec 32 := Scalar.extui v33
  let c0_i32_34 : BitVec 32 := 0#32
  let v35 : BitVec 1 := Scalar.cmpi .ne v34 c0_i32_34
  v35

def k0_off5 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off6 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_86 : BitVec 32 := 0#32
  ![v2.toNat, 0]
def k0_dev11 : Nat :=
  let c0_i32_85 : BitVec 32 := 0#32
  let c3_i32_83 : BitVec 32 := 3#32
  let c1_i32_84 : BitVec 32 := 1#32
  let v114 : BitVec 32 := Scalar.muli c3_i32_83 c1_i32_84
  let v115 : BitVec 32 := Scalar.addi c0_i32_85 v114
  v115.toNat
def k0_cond4 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_35 : BitVec 32 := 4#32
  let v36 : BitVec 1 := Scalar.cmpi .slt v2 c4_i32_35
  let v37 : BitVec 32 := Scalar.extui v36
  let c0_i32_36 : BitVec 32 := 0#32
  let v38 : BitVec 1 := Scalar.cmpi .ne v37 c0_i32_36
  v38

def k0_off7 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off8 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_86 : BitVec 32 := 0#32
  ![v2.toNat, 0]
def k0_dev12 : Nat :=
  let c0_i32_85 : BitVec 32 := 0#32
  let c4_i32_83 : BitVec 32 := 4#32
  let c1_i32_84 : BitVec 32 := 1#32
  let v114 : BitVec 32 := Scalar.muli c4_i32_83 c1_i32_84
  let v115 : BitVec 32 := Scalar.addi c0_i32_85 v114
  v115.toNat
def k0_cond5 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_37 : BitVec 32 := 5#32
  let v39 : BitVec 1 := Scalar.cmpi .slt v2 c5_i32_37
  let v40 : BitVec 32 := Scalar.extui v39
  let c0_i32_38 : BitVec 32 := 0#32
  let v41 : BitVec 1 := Scalar.cmpi .ne v40 c0_i32_38
  v41

def k0_off9 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off10 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_86 : BitVec 32 := 0#32
  ![v2.toNat, 0]
def k0_dev13 : Nat :=
  let c0_i32_85 : BitVec 32 := 0#32
  let c5_i32_83 : BitVec 32 := 5#32
  let c1_i32_84 : BitVec 32 := 1#32
  let v114 : BitVec 32 := Scalar.muli c5_i32_83 c1_i32_84
  let v115 : BitVec 32 := Scalar.addi c0_i32_85 v114
  v115.toNat
def k0_cond6 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_39 : BitVec 32 := 6#32
  let v42 : BitVec 1 := Scalar.cmpi .slt v2 c6_i32_39
  let v43 : BitVec 32 := Scalar.extui v42
  let c0_i32_40 : BitVec 32 := 0#32
  let v44 : BitVec 1 := Scalar.cmpi .ne v43 c0_i32_40
  v44

def k0_off11 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off12 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_86 : BitVec 32 := 0#32
  ![v2.toNat, 0]
def k0_dev14 : Nat :=
  let c0_i32_85 : BitVec 32 := 0#32
  let c6_i32_83 : BitVec 32 := 6#32
  let c1_i32_84 : BitVec 32 := 1#32
  let v114 : BitVec 32 := Scalar.muli c6_i32_83 c1_i32_84
  let v115 : BitVec 32 := Scalar.addi c0_i32_85 v114
  v115.toNat
def k0_cond7 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_41 : BitVec 32 := 7#32
  let v45 : BitVec 1 := Scalar.cmpi .slt v2 c7_i32_41
  let v46 : BitVec 32 := Scalar.extui v45
  let c0_i32_42 : BitVec 32 := 0#32
  let v47 : BitVec 1 := Scalar.cmpi .ne v46 c0_i32_42
  v47

def k0_off13 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off14 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_86 : BitVec 32 := 0#32
  ![v2.toNat, 0]
def k0_dev15 : Nat :=
  let c0_i32_85 : BitVec 32 := 0#32
  let c7_i32_83 : BitVec 32 := 7#32
  let c1_i32_84 : BitVec 32 := 1#32
  let v114 : BitVec 32 := Scalar.muli c7_i32_83 c1_i32_84
  let v115 : BitVec 32 := Scalar.addi c0_i32_85 v114
  v115.toNat
def k0_cond8 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_46 : BitVec 32 := 0#32
  let v57 : BitVec 1 := Scalar.cmpi .sgt v2 c0_i32_46
  let v58 : BitVec 32 := Scalar.extui v57
  let c0_i32_47 : BitVec 32 := 0#32
  let v59 : BitVec 1 := Scalar.cmpi .ne v58 c0_i32_47
  v59

def k0_dev16 : Nat :=
  let c0_i32_92 : BitVec 32 := 0#32
  let c0_i32_90 : BitVec 32 := 0#32
  let c1_i32_91 : BitVec 32 := 1#32
  let v119 : BitVec 32 := Scalar.muli c0_i32_90 c1_i32_91
  let v120 : BitVec 32 := Scalar.addi c0_i32_92 v119
  v120.toNat
def k0_cond9 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_48 : BitVec 32 := 1#32
  let v60 : BitVec 1 := Scalar.cmpi .sgt v2 c1_i32_48
  let v61 : BitVec 32 := Scalar.extui v60
  let c0_i32_49 : BitVec 32 := 0#32
  let v62 : BitVec 1 := Scalar.cmpi .ne v61 c0_i32_49
  v62

def k0_dev17 : Nat :=
  let c0_i32_92 : BitVec 32 := 0#32
  let c1_i32_90 : BitVec 32 := 1#32
  let c1_i32_91 : BitVec 32 := 1#32
  let v119 : BitVec 32 := Scalar.muli c1_i32_90 c1_i32_91
  let v120 : BitVec 32 := Scalar.addi c0_i32_92 v119
  v120.toNat
def k0_cond10 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_50 : BitVec 32 := 2#32
  let v63 : BitVec 1 := Scalar.cmpi .sgt v2 c2_i32_50
  let v64 : BitVec 32 := Scalar.extui v63
  let c0_i32_51 : BitVec 32 := 0#32
  let v65 : BitVec 1 := Scalar.cmpi .ne v64 c0_i32_51
  v65

def k0_dev18 : Nat :=
  let c0_i32_92 : BitVec 32 := 0#32
  let c2_i32_90 : BitVec 32 := 2#32
  let c1_i32_91 : BitVec 32 := 1#32
  let v119 : BitVec 32 := Scalar.muli c2_i32_90 c1_i32_91
  let v120 : BitVec 32 := Scalar.addi c0_i32_92 v119
  v120.toNat
def k0_cond11 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_52 : BitVec 32 := 3#32
  let v66 : BitVec 1 := Scalar.cmpi .sgt v2 c3_i32_52
  let v67 : BitVec 32 := Scalar.extui v66
  let c0_i32_53 : BitVec 32 := 0#32
  let v68 : BitVec 1 := Scalar.cmpi .ne v67 c0_i32_53
  v68

def k0_dev19 : Nat :=
  let c0_i32_92 : BitVec 32 := 0#32
  let c3_i32_90 : BitVec 32 := 3#32
  let c1_i32_91 : BitVec 32 := 1#32
  let v119 : BitVec 32 := Scalar.muli c3_i32_90 c1_i32_91
  let v120 : BitVec 32 := Scalar.addi c0_i32_92 v119
  v120.toNat
def k0_cond12 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_54 : BitVec 32 := 4#32
  let v69 : BitVec 1 := Scalar.cmpi .sgt v2 c4_i32_54
  let v70 : BitVec 32 := Scalar.extui v69
  let c0_i32_55 : BitVec 32 := 0#32
  let v71 : BitVec 1 := Scalar.cmpi .ne v70 c0_i32_55
  v71

def k0_dev20 : Nat :=
  let c0_i32_92 : BitVec 32 := 0#32
  let c4_i32_90 : BitVec 32 := 4#32
  let c1_i32_91 : BitVec 32 := 1#32
  let v119 : BitVec 32 := Scalar.muli c4_i32_90 c1_i32_91
  let v120 : BitVec 32 := Scalar.addi c0_i32_92 v119
  v120.toNat
def k0_cond13 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_56 : BitVec 32 := 5#32
  let v72 : BitVec 1 := Scalar.cmpi .sgt v2 c5_i32_56
  let v73 : BitVec 32 := Scalar.extui v72
  let c0_i32_57 : BitVec 32 := 0#32
  let v74 : BitVec 1 := Scalar.cmpi .ne v73 c0_i32_57
  v74

def k0_dev21 : Nat :=
  let c0_i32_92 : BitVec 32 := 0#32
  let c5_i32_90 : BitVec 32 := 5#32
  let c1_i32_91 : BitVec 32 := 1#32
  let v119 : BitVec 32 := Scalar.muli c5_i32_90 c1_i32_91
  let v120 : BitVec 32 := Scalar.addi c0_i32_92 v119
  v120.toNat
def k0_cond14 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_58 : BitVec 32 := 6#32
  let v75 : BitVec 1 := Scalar.cmpi .sgt v2 c6_i32_58
  let v76 : BitVec 32 := Scalar.extui v75
  let c0_i32_59 : BitVec 32 := 0#32
  let v77 : BitVec 1 := Scalar.cmpi .ne v76 c0_i32_59
  v77

def k0_dev22 : Nat :=
  let c0_i32_92 : BitVec 32 := 0#32
  let c6_i32_90 : BitVec 32 := 6#32
  let c1_i32_91 : BitVec 32 := 1#32
  let v119 : BitVec 32 := Scalar.muli c6_i32_90 c1_i32_91
  let v120 : BitVec 32 := Scalar.addi c0_i32_92 v119
  v120.toNat
def k0_cond15 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_68 : BitVec 32 := 1#32
  let v93 : BitVec 1 := Scalar.cmpi .slt v2 c1_i32_68
  let v94 : BitVec 32 := Scalar.extui v93
  let c0_i32_69 : BitVec 32 := 0#32
  let v95 : BitVec 1 := Scalar.cmpi .ne v94 c0_i32_69
  v95

def k0_off15 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_85 : BitVec 32 := 0#32
  ![v2.toNat, 0]
def k0_cond16 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_70 : BitVec 32 := 2#32
  let v96 : BitVec 1 := Scalar.cmpi .slt v2 c2_i32_70
  let v97 : BitVec 32 := Scalar.extui v96
  let c0_i32_71 : BitVec 32 := 0#32
  let v98 : BitVec 1 := Scalar.cmpi .ne v97 c0_i32_71
  v98

def k0_off16 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_85 : BitVec 32 := 0#32
  ![v2.toNat, 0]
def k0_cond17 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_72 : BitVec 32 := 3#32
  let v99 : BitVec 1 := Scalar.cmpi .slt v2 c3_i32_72
  let v100 : BitVec 32 := Scalar.extui v99
  let c0_i32_73 : BitVec 32 := 0#32
  let v101 : BitVec 1 := Scalar.cmpi .ne v100 c0_i32_73
  v101

def k0_off17 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_85 : BitVec 32 := 0#32
  ![v2.toNat, 0]
def k0_cond18 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_74 : BitVec 32 := 4#32
  let v102 : BitVec 1 := Scalar.cmpi .slt v2 c4_i32_74
  let v103 : BitVec 32 := Scalar.extui v102
  let c0_i32_75 : BitVec 32 := 0#32
  let v104 : BitVec 1 := Scalar.cmpi .ne v103 c0_i32_75
  v104

def k0_off18 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_85 : BitVec 32 := 0#32
  ![v2.toNat, 0]
def k0_cond19 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_76 : BitVec 32 := 5#32
  let v105 : BitVec 1 := Scalar.cmpi .slt v2 c5_i32_76
  let v106 : BitVec 32 := Scalar.extui v105
  let c0_i32_77 : BitVec 32 := 0#32
  let v107 : BitVec 1 := Scalar.cmpi .ne v106 c0_i32_77
  v107

def k0_off19 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_85 : BitVec 32 := 0#32
  ![v2.toNat, 0]
def k0_cond20 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_78 : BitVec 32 := 6#32
  let v108 : BitVec 1 := Scalar.cmpi .slt v2 c6_i32_78
  let v109 : BitVec 32 := Scalar.extui v108
  let c0_i32_79 : BitVec 32 := 0#32
  let v110 : BitVec 1 := Scalar.cmpi .ne v109 c0_i32_79
  v110

def k0_off20 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_85 : BitVec 32 := 0#32
  ![v2.toNat, 0]
def k0_cond21 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_80 : BitVec 32 := 7#32
  let v111 : BitVec 1 := Scalar.cmpi .slt v2 c7_i32_80
  let v112 : BitVec 32 := Scalar.extui v111
  let c0_i32_81 : BitVec 32 := 0#32
  let v113 : BitVec 1 := Scalar.cmpi .ne v112 c0_i32_81
  v113

def k0_off21 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_85 : BitVec 32 := 0#32
  ![v2.toNat, 0]
abbrev stage0_0 : Fin 1 → Memref sig .tc .vmem S512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x512 : Shape := ⟨2, ![4096, 512]⟩
abbrev S_ : Shape := ⟨0, ![]⟩

abbrev nBuf : Space → Nat
  | .hbm => 4
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S_, .f32⟩
  | .hbm, ⟨2, _⟩ => ⟨S_, .f32⟩
  | .hbm, ⟨3, _⟩ => ⟨S4096x512, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_call0_cst : Ref sig .tc := ⟨.hbm, 1, rfl⟩
abbrev main_call0_call0_v0 : Ref sig .tc := ⟨.hbm, 2, rfl⟩
abbrev main_v0 : Ref sig .tc := ⟨.hbm, 3, rfl⟩

abbrev nD : Nat := 1
abbrev τ : Topo := Topo.v7x

variable {F : FTy → Type} [FloatOps F]
-- ==== Proof.KernelIdealProtocol.lean ====
/-
# The exchange of the distributed prefix sum: cells, contents, schedule

Eight devices each hold a block of 512 rows. A device adds up the columns of its block and sends the resulting row to
every device of a higher number; it then adds the rows of the devices below it to the running sums of its own block.
Before the first transfer all devices meet on the runtime's barrier semaphore, each signalling every device once.

The protocol has one round. Device `c`'s barrier cell has eight duties, one per device; the duty of device `d` hands
row `c` of `d`'s communication buffer over to `c` when `c < d`, which is where `c` will write. Device `c`'s send cell
`k` and receive cell `j` have one duty each when `c < k` and `j < c`. Its acknowledgement cell has one duty for every
device above it.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.ShareLeaves
public import Idealize.ShloMosaic.Lib.Ring
public import Idealize.ShloMosaic.Lib.ValueIdxCore
public import Idealize.ShloMosaic.Lib.Tactic

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 eq_ix2)

variable {F : FTy → Type} [FloatOps F]

/-! ## The resource algebra: the pipeline's copy and the exchange's, whose duties are named by devices -/

abbrev UB : Type := URounds (GSem nD τ sig) (Fin 8)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: any contents, all semaphore counters zero, any generator registers. -/
def s₀ : MemSt nD τ sig (Elt F) := ⟨m, fun _ => 0, ρ⟩

/-! ## Buffers, rows and semaphores -/

abbrev xM : Memref sig .tc .vmem S512x512 .f32 := Memref.whole cc0_stg0_0
abbrev oM : Memref sig .tc .vmem S512x512 .f32 := Memref.whole cc0_stg1_0
abbrev gM : Memref sig .tc .vmem S8x512 .f32 := Memref.whole cc0_scratch0
abbrev sM : Memref sig .tc .vmem S1x512 .f32 := Memref.whole cc0_scratch1

theorem row_inb (j : Fin 8) : ∀ a, (![j.val, 0] : Fin 2 → Nat) a + S1x512.size a ≤ S8x512.size a := by
  revert j; decide

/-- Row `j` of the communication buffer. -/
def rowM (j : Fin 8) : Memref sig .tc .vmem S1x512 .f32 :=
  gM.slice (Rect.unit (s := S8x512) ![j.val, 0] S1x512.size (row_inb j)) (fun _ => rfl)

theorem row_eq (j : Fin 8) {off : Fin 2 → Nat} (h : off = ![j.val, 0])
    (inb : ∀ a, off a + S1x512.size a ≤ S8x512.size a) :
    gM.slice (Rect.unit (s := S8x512) off S1x512.size inb) (fun _ => rfl) = rowM j := by subst h; rfl

abbrev barS : Sem sig := (SemArray.scalar (sig.barrier 0 rfl) : Sems sig S_).sem
abbrev ackS : Sem sig := (cc0_scratch4 : Sems sig S_).sem
/-- The send semaphore of the transfer to device `k`. -/
def sndS (k : Fin 8) : DmaSem sig := ⟨k.val + 2, by have := k.isLt; show k.val + 2 < 18; omega⟩
/-- The receive semaphore of the transfer from device `j`. -/
def rcvS (j : Fin 8) : DmaSem sig := ⟨j.val + 10, by have := j.isLt; show j.val + 10 < 18; omega⟩

theorem sem_inb (k : Fin 8) : ∀ a, (![k.val] : Fin 1 → Nat) a + S1.size a ≤ S8.size a := by revert k; decide

theorem snd_sem (k : Fin 8) {off : Fin 1 → Nat} (h : off = ![k.val]) (inb : ∀ a, off a + S1.size a ≤ S8.size a) :
    ((cc0_scratch2.slice (Rect.unit (s := S8) off S1.size inb)).squeeze S_ squeezes_S1_S_).sem = sndS k := by
  subst h; revert inb; revert k; decide
theorem rcv_sem (j : Fin 8) {off : Fin 1 → Nat} (h : off = ![j.val]) (inb : ∀ a, off a + S1.size a ≤ S8.size a) :
    ((cc0_scratch3.slice (Rect.unit (s := S8) off S1.size inb)).squeeze S_ squeezes_S1_S_).sem = rcvS j := by
  subst h; revert inb; revert j; decide

/-! ## Cells -/

/-- A device's own cells: the acknowledgement, the sends, the receives. -/
abbrev OCl : Type := Unit ⊕ (Fin 8 ⊕ Fin 8)
/-- All cells of the exchange on one device: the barrier and its own. -/
abbrev Cl : Type := Unit ⊕ OCl

abbrev bar : Cl := .inl ()
abbrev ack : Cl := .inr (.inl ())
abbrev snd (k : Fin 8) : Cl := .inr (.inr (.inl k))
abbrev rcv (j : Fin 8) : Cl := .inr (.inr (.inr j))

abbrev osem : OCl → SemLoc sig
  | .inl _ => .reg ackS
  | .inr (.inl k) => .dma (sndS k)
  | .inr (.inr j) => .dma (rcvS j)
abbrev csem : Cl → SemLoc sig
  | .inl _ => .reg barS
  | .inr o => osem o
abbrev kcell (ck : Dev nD × Cl) : GSem nD τ sig := ((ck.1 : Thread nD τ), csem ck.2)

/-- Which cell of the exchange a semaphore is. -/
def kind : SemLoc sig → Option Cl
  | .reg s => if s = barS then some bar else some ack
  | .dma q => if q.val < 2 then none
      else if h : q.val < 10 then some (snd ⟨q.val - 2, by omega⟩)
      else some (rcv ⟨q.val - 10, by have := q.isLt; have : q.val < 18 := this; omega⟩)

theorem kind_csem (x : Cl) : kind (csem x) = some x := by
  rcases x with ⟨⟩ | ⟨⟩ | k | j
  · show kind (csem bar) = some bar; decide
  · show kind (csem ack) = some ack; decide
  · revert k; decide
  · revert j; decide

theorem csem_inj : Function.Injective csem := fun x y h => by
  have := congrArg kind h; rw [kind_csem, kind_csem] at this; exact Option.some.inj this
theorem osem_inj : Function.Injective osem := fun x y h => Sum.inr.inj (csem_inj (a₁ := .inr x) (a₂ := .inr y) h)
theorem kcell_inj {a b : Dev nD × Cl} (h : kcell a = kcell b) : a = b := by
  obtain ⟨c, x⟩ := a; obtain ⟨d, y⟩ := b
  have h1 : (c : Thread nD τ) = (d : Thread nD τ) := congrArg Prod.fst h
  have h2 : csem x = csem y := congrArg Prod.snd h
  have h3 : c = d := congrArg Prod.fst h1
  rw [h3, csem_inj h2]

/-- The bytes of one row as a transfer counts them. -/
abbrev N : ℕ := sM.view.dmaCredit
theorem N_pos : 0 < N := View.dmaCredit_pos _ (by decide)
theorem N_row (j : Fin 8) : (rowM j).view.dmaCredit = N := rfl

/-! ## Contents -/

/-- Device `c`'s block of the argument as staged. -/
def xstg (c : Dev nD) : (cc0_stg0_0 : Ref sig .tc).ty.Contents (Elt F) :=
  (win0_0.blk (0 : Fin 1)).view.read (Elt F) ((s₀ m ρ).mem ((c : Thread nD τ).loc main_arg0))

/-- The column sums of device `j`'s block: the row it sends. -/
def bs (j : Dev nD) : (cc0_scratch1 : Ref sig .tc).ty.Contents (Elt F) := k0_pay2 (xstg m ρ j)

/-- A communication buffer whose row `j` holds device `j`'s column sums. -/
def bsAll : (cc0_scratch0 : Ref sig .tc).ty.Contents (Elt F) :=
  fun i => bs m ρ (i (0 : Fin 2)) (ix2 (0 : Fin 1) (i (1 : Fin 2)))

/-- The place of a row's entry in the buffer. -/
def rowAt (j : Fin 8) (x : S1x512.Idx) : S8x512.Idx := (rowM j).view.emb x
/-- The places of row `j`. -/
def rowSet (j : Fin 8) : Finset S8x512.Idx := (rowM j).view.set

theorem row_emb (j : Fin 8) (x : S1x512.Idx) : rowAt j x = (ix2 j (x 1) : S8x512.Idx) := by
  funext a
  apply Fin.ext
  show ((![j.val, 0] : Fin 2 → Nat) a + 1 * (x a).val : Nat) = _
  match a with
  | ⟨0, _⟩ =>
    have h0 : (x (0 : Fin 2)).val = 0 := by have := (x (0 : Fin 2)).isLt; change _ < 1 at this; omega
    show j.val + 1 * (x (0 : Fin 2)).val = j.val
    omega
  | ⟨1, _⟩ =>
    show 0 + 1 * (x (1 : Fin 2)).val = (x (1 : Fin 2)).val
    omega

theorem mem_rowSet_iff {j : Fin 8} {i : S8x512.Idx} : i ∈ rowSet j ↔ ∃ x, rowAt j x = i := by
  constructor
  · intro h
    obtain ⟨x, -, hx⟩ := Finset.mem_map.mp h
    exact ⟨x, hx⟩
  · rintro ⟨x, hx⟩
    exact Finset.mem_map.mpr ⟨x, Finset.mem_univ _, hx⟩

theorem mem_row {j : Fin 8} {i : S8x512.Idx} : i ∈ rowSet j ↔ i 0 = j := by
  rw [mem_rowSet_iff]
  constructor
  · rintro ⟨x, rfl⟩
    rw [row_emb]
  · intro h
    refine ⟨ix2 (0 : Fin 1) (i 1), ?_⟩
    rw [row_emb, eq_ix2 i, ← h]; rfl

omit [FloatOps F] in
/-- What a transfer of device `j`'s row leaves in row `j` of the receiving buffer. -/
theorem row_write (j : Fin 8) (fd : (cc0_scratch0 : Ref sig .tc).ty.Contents (Elt F))
    (fs : (cc0_scratch1 : Ref sig .tc).ty.Contents (Elt F)) (i : S8x512.Idx) (h : i ∈ rowSet j) :
    (rowM j).view.write (Elt F) fd (sM.view.read (Elt F) fs) Finset.univ i = fs (ix2 (0 : Fin 1) (i 1)) := by
  obtain ⟨x, rfl⟩ := mem_rowSet_iff.mp h
  refine (View.write_emb_of_mem (v := (rowM j).view) fd _ (Finset.mem_univ x)).trans ?_
  rw [row_emb]
  have hx : x = ix2 (0 : Fin 1) (x 1) := by
    refine (eq_ix2 x).trans (congrArg (fun a => ix2 a (x 1)) (Fin.ext ?_))
    have := (x (0 : Fin 2)).isLt; change _ < 1 at this; change (x (0 : Fin 2)).val = 0; omega
  exact congrArg fs hx

/-! ## Pieces of memory -/

/-- Row `j` of device `d`'s communication buffer, holding what `f` says. -/
def rowPts (d : Dev nD) (j : Fin 8) (f : Buf (Elt F) ((d : Thread nD τ).loc cc0_scratch0)) : sProp 𝕄 :=
  ((d : Thread nD τ).loc cc0_scratch0) ↦[rowSet j]{fullShare} f
/-- A share of device `c`'s send buffer, holding its column sums. -/
def sbPts (c : Dev nD) (q : PosShare TreeShare) : sProp 𝕄 :=
  sM.view.loc (c : Thread nD τ) ↦[sM.view.set]{q} bs m ρ c
/-- The part of that buffer lent to the transfer to device `k`. -/
abbrev lf (k : Fin 8) : PosShare TreeShare := ShareLeaves.leaf 3 fullShare k

omit [FloatOps F] in
instance rowPts_storable (d : Dev nD) (j : Fin 8) (f) : BI.Storable (upEmb : UEmb _ 𝕄) (rowPts (F := F) d j f) := by
  unfold rowPts; infer_instance
instance sbPts_storable (c : Dev nD) (q) : BI.Storable (upEmb : UEmb _ 𝕄) (sbPts (F := F) m ρ c q) := by
  unfold sbPts; infer_instance

/-! ## The schedule -/

/-- Who pays a cell of device `c`. -/
def dutiesOf (c : Dev nD) : Cl → Finset (Fin 8)
  | .inl _ => Finset.univ
  | .inr (.inl _) => Finset.univ.filter (fun k => c < k)
  | .inr (.inr (.inl k)) => if c < k then {0} else ∅
  | .inr (.inr (.inr j)) => if j < c then {0} else ∅

/-- What a payment to a cell of device `c` hands over. -/
def payOf (c : Dev nD) (d : Fin 8) : Cl → sProp 𝕄
  | .inl _ => if c < d then iprop(∃ f, rowPts d c f) else iprop(emp)
  | .inr (.inl _) => iprop(emp)
  | .inr (.inr (.inl k)) => sbPts m ρ c (lf k)
  | .inr (.inr (.inr j)) => rowPts c j (bsAll m ρ)

def payOpt (c : Dev nD) (d : Fin 8) : Option Cl → sProp 𝕄
  | none => iprop(emp)
  | some x => payOf m ρ c d x
def dutiesOpt (c : Dev nD) : Option Cl → Finset (Fin 8)
  | none => ∅
  | some x => dutiesOf c x

/-- One payment to a cell: one unit on a regular semaphore, a row's bytes on a transfer's. -/
def amt : SemLoc sig → ℕ
  | .reg _ => 1
  | .dma _ => N

/-- The exchange's schedule: everything in round 0, on the cells above. -/
def Rd : Rounds.Schedule (GSem nD τ sig) (Fin 8) 𝕄 where
  duties g r := if r = 0 ∧ g.1.2 = .tc then dutiesOpt g.1.1 (kind g.2) else ∅
  unitless _ := False
  amount g _ _ := amt g.2
  payload g _ d := payOpt m ρ g.1.1 d (kind g.2)
  amount_pos g _ _ _ := by
    show 0 < amt g.2
    cases g.2 with
    | reg s => exact Nat.one_pos
    | dma q => exact N_pos

instance payOf_storable (c : Dev nD) (d : Fin 8) (x : Cl) : BI.Storable (upEmb : UEmb _ 𝕄) (payOf (F := F) m ρ c d x) := by
  rcases x with ⟨⟩ | ⟨⟩ | k | j
  · show BI.Storable upEmb (if c < d then iprop(∃ f, rowPts d c f) else iprop(emp))
    split <;> infer_instance
  · show BI.Storable upEmb iprop(emp); infer_instance
  · show BI.Storable upEmb (sbPts m ρ c (lf k)); infer_instance
  · show BI.Storable upEmb (rowPts c j (bsAll m ρ)); infer_instance

instance Rd_payload_storable (g : GSem nD τ sig) (r : ℕ) (d : Fin 8) :
    BI.Storable (upEmb : UEmb _ 𝕄) ((Rd (F := F) m ρ).payload g r d) := by
  show BI.Storable upEmb (payOpt m ρ g.1.1 d (kind g.2))
  cases kind g.2 with
  | none => show BI.Storable upEmb iprop(emp); infer_instance
  | some x => show BI.Storable upEmb (payOf m ρ g.1.1 d x); infer_instance

section Sched
variable (c : Dev nD)

theorem duties_at (x : Cl) : (Rd (F := F) m ρ).duties (kcell (c, x)) 0 = dutiesOf c x := by
  show (if (0 = 0 ∧ (kcell (c, x)).1.2 = .tc) then dutiesOpt c (kind (csem x)) else ∅) = _
  rw [if_pos ⟨rfl, rfl⟩, kind_csem]; rfl
theorem payload_at (x : Cl) (d : Fin 8) : (Rd (F := F) m ρ).payload (kcell (c, x)) 0 d = payOf m ρ c d x := by
  show payOpt m ρ c d (kind (csem x)) = _
  rw [kind_csem]; rfl
theorem duties_later (g : GSem nD τ sig) : ∀ r, 1 ≤ r → (Rd (F := F) m ρ).duties g r = ∅ :=
  fun r hr => if_neg fun h => by omega
theorem amount_at (g : GSem nD τ sig) (d : Fin 8) : (Rd (F := F) m ρ).amount g 0 d = amt g.2 := rfl

theorem expect_at (x : Cl) : (Rd (F := F) m ρ).expect (kcell (c, x)) 0 = (dutiesOf c x).card * amt (csem x) := by
  unfold Schedule.expect Schedule.amountOf
  rw [duties_at, Finset.sum_congr rfl fun d _ => amount_at m ρ _ d, Finset.sum_const, smul_eq_mul]

theorem duties_snd (k : Fin 8) (h : c < k) : (Rd (F := F) m ρ).duties (kcell (c, snd k)) 0 = {0} :=
  (duties_at m ρ c _).trans (if_pos h)
theorem duties_rcv (j : Fin 8) (h : j < c) : (Rd (F := F) m ρ).duties (kcell (c, rcv j)) 0 = {0} :=
  (duties_at m ρ c _).trans (if_pos h)
theorem expect_bar : (Rd (F := F) m ρ).expect (kcell (c, bar)) 0 = 8 := expect_at m ρ c _
theorem expect_snd (k : Fin 8) (h : c < k) : (Rd (F := F) m ρ).expect (kcell (c, snd k)) 0 = N := by
  rw [expect_at]; show (if c < k then ({0} : Finset (Fin 8)) else ∅).card * N = N
  rw [if_pos h, Finset.card_singleton, Nat.one_mul]
theorem expect_rcv (j : Fin 8) (h : j < c) : (Rd (F := F) m ρ).expect (kcell (c, rcv j)) 0 = N := by
  rw [expect_at]; show (if j < c then ({0} : Finset (Fin 8)) else ∅).card * N = N
  rw [if_pos h, Finset.card_singleton, Nat.one_mul]
theorem expect_ack : (Rd (F := F) m ρ).expect (kcell (c, ack)) 0 = 7 - c.val := by
  rw [expect_at]; show (Finset.univ.filter (fun k : Fin 8 => c < k)).card * 1 = _
  revert c; decide

end Sched

end Cert.KernelIdealProof
-- ==== Proof.KernelIdealSteps.lean ====
/-
# The exchange, one operation at a time

What a device owes, the order of the cells by level, the state of each of the four phases (signals, sends, receives,
final waits) after `n` operations, and one lemma per kind of operation that takes a phase from `n` to `n + 1`.
-/
module

public import proofs.«01_k».proof.Proof.KernelIdealProtocol

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 eq_ix2)

variable {F : FTy → Type} [FloatOps F]

local notation "𝕄" => MT nD τ sig Unit (Elt F) ℕ UU ℕ

variable (m : (ℓ : Loc nD τ sig) → Buf (Elt F) ℓ) (ρ : Dev nD → PrngReg)

/-! ## Owed amounts -/

abbrev Tally : Type := CellTallies nD τ sig Unit

/-- What is left of a family of debts once those below `n` are paid. -/
def tail (f : Fin 8 → Tally) (n : ℕ) : Tally := ∑ k : Fin 8, if n ≤ k.val then f k else 0

theorem tail_step (f : Fin 8 → Tally) {n : ℕ} (k : Fin 8) (hk : k.val = n) : tail f n = tail f (n + 1) + f k := by
  have h : f k = ∑ i : Fin 8, if i = k then f i else 0 := by
    rw [Finset.sum_ite_eq' Finset.univ k f, if_pos (Finset.mem_univ k)]
  unfold tail
  rw [h, ← Finset.sum_add_distrib]
  refine Finset.sum_congr rfl fun i _ => ?_
  by_cases hi : i = k
  · subst hi
    rw [if_pos (by omega), if_neg (by omega), if_pos rfl, zero_add]
  · have : i.val ≠ k.val := fun h' => hi (Fin.ext h')
    rw [if_neg hi, add_zero]
    by_cases hn : n ≤ i.val
    · rw [if_pos hn, if_pos (by omega)]
    · rw [if_neg hn, if_neg (by omega)]

theorem tail_end (f : Fin 8 → Tally) : tail f 8 = 0 :=
  Finset.sum_eq_zero fun i _ => if_neg (by have := i.isLt; omega)

/-- The unit owed to device `d`'s barrier. -/
def oBar (d : Fin 8) : Tally := tallyAt (kcell (d, bar)) () 1
/-- The row device `c` owes to device `k` above it. -/
def oRcv (c : Dev nD) (k : Fin 8) : Tally := if c < k then tallyAt (kcell (k, rcv c)) () N else 0
/-- The acknowledgement device `c` owes to device `j` below it. -/
def oAck (c : Dev nD) (j : Fin 8) : Tally := if j < c then tallyAt (kcell (j, ack)) () 1 else 0

/-- Debts before the receive of row `n`. -/
def OR (c : Dev nD) (n : ℕ) : Tally := tail (oAck c) n
/-- Debts before the send to device `n`. -/
def OS (c : Dev nD) (n : ℕ) : Tally := tail (oAck c) 0 + tail (oRcv c) n
/-- Debts before the signal to device `n`. -/
def OB (c : Dev nD) (n : ℕ) : Tally := OS c 1 + tail oBar n

theorem OR_step (c : Dev nD) {n : ℕ} (j : Fin 8) (hj : j.val = n) : OR c n = OR c (n + 1) + oAck c j := tail_step _ j hj
theorem OS_step (c : Dev nD) {n : ℕ} (k : Fin 8) (hk : k.val = n) : OS c n = OS c (n + 1) + oRcv c k := by
  unfold OS; rw [tail_step _ k hk, add_assoc]
theorem OB_step (c : Dev nD) {n : ℕ} (d : Fin 8) (hd : d.val = n) : OB c n = OB c (n + 1) + oBar d := by
  unfold OB; rw [tail_step _ d hd, add_assoc]
theorem OB_end (c : Dev nD) : OB c 8 = OS c 1 := by unfold OB; rw [tail_end, add_zero]
theorem OS_end (c : Dev nD) : OS c 8 = OR c 0 := by unfold OS OR; rw [tail_end, add_zero]
theorem OR_end (c : Dev nD) : OR c 8 = 0 := tail_end _

/-! ## Levels: barrier below receives below acknowledgements -/

def L (g : GSem nD τ sig) : Finset Unit := if g.1.2 = .tc then {()} else ∅

def lvOf : Option Cl → ℕ
  | some (.inl _) => 1
  | some (.inr (.inr (.inr _))) => 2
  | some (.inr (.inl _)) => 3
  | _ => 0
def lv (g : GSem nD τ sig) (_ : Unit) : ℕ := lvOf (kind g.2)

theorem L_of_ne (g : GSem nD τ sig) (h : g.1.2 ≠ .tc) : L g = ∅ := if_neg h
theorem L_tc (c : Dev nD) (sm : SemLoc sig) : L ((c : Thread nD τ), sm) = {()} := if_pos rfl
theorem lv_at (c : Dev nD) (x : Cl) : lv (kcell (c, x)) () = lvOf (some x) := by
  show lvOf (kind (csem x)) = _; rw [kind_csem]

/-- All debts in `O` lie above level `b`. -/
def Above (b : ℕ) (O : Tally) : Prop := ∀ g u, 0 < O g u → g.1.2 = .tc ∧ b < lv g u

theorem above_zero (b : ℕ) : Above b 0 := fun g u h => absurd h (Nat.lt_irrefl 0)
theorem above_add {b : ℕ} {O O' : Tally} (h : Above b O) (h' : Above b O') : Above b (O + O') := fun g u hg => by
  rw [Pi.add_apply, Finsupp.add_apply] at hg
  rcases Nat.eq_zero_or_pos (O g u) with h0 | h0
  · rcases Nat.eq_zero_or_pos (O' g u) with h1 | h1
    · rw [h0, h1] at hg; exact absurd hg (Nat.lt_irrefl 0)
    · exact h' g u h1
  · exact h g u h0
theorem above_at {b : ℕ} (c : Dev nD) (x : Cl) (n : ℕ) (h : b < lvOf (some x)) : Above b (tallyAt (kcell (c, x)) () n) :=
  fun g u hg => by
    rw [tallyAt_apply] at hg
    by_cases h' : g = kcell (c, x) ∧ u = ()
    · rw [h'.1]; exact ⟨rfl, by rw [lv_at]; exact h⟩
    · rw [if_neg h'] at hg; exact absurd hg (Nat.lt_irrefl 0)
theorem above_tail {b : ℕ} {f : Fin 8 → Tally} (h : ∀ k, Above b (f k)) (n : ℕ) : Above b (tail f n) := by
  unfold tail
  refine Finset.sum_induction _ (Above b) (fun _ _ => above_add) (above_zero b) fun k _ => ?_
  split
  · exact h k
  · exact above_zero b

theorem above_oAck (c j) : Above 2 (oAck c j) := by
  unfold oAck; split
  · exact above_at _ _ _ (by decide)
  · exact above_zero _
theorem above_oRcv (c k) : Above 1 (oRcv c k) := by
  unfold oRcv; split
  · exact above_at _ _ _ (by show 1 < 2; decide)
  · exact above_zero _
theorem above_mono {a b : ℕ} {O : Tally} (hab : a ≤ b) (h : Above b O) : Above a O :=
  fun g u hg => ⟨(h g u hg).1, Nat.lt_of_le_of_lt hab (h g u hg).2⟩
theorem above_OR (c n) : Above 2 (OR c n) := above_tail (above_oAck c) n
theorem above_OS (c n) : Above 1 (OS c n) :=
  above_add (above_mono (by decide) (above_tail (above_oAck c) 0)) (above_tail (above_oRcv c) n)
theorem above_OB (c n) : Above 0 (OB c n) :=
  above_add (above_mono (by decide) (above_OS c 1)) (above_tail (fun d => above_at _ _ _ (by decide)) n)

omit [FloatOps F] in
/-- A cell at level `b` may be waited on while all debts are above `b`. -/
theorem mayWait (c : Dev nD) (sm : SemLoc sig) (b : ℕ) (h : lvOf (kind sm) ≤ b) {O : Tally} (hO : Above b O) :
    (levAts L lv : sProp 𝕄) ⊢ MayWait (c : Thread nD τ) sm () O :=
  MayOwe.of_cut (L := L) (lev := lv) b (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact h)
    (fun g u hg => (hO g u hg).2)

/-! ## What every step may use -/

variable (K : Dev nD × Cl → ℕ)

/-- All cells' invariants, that each has reached round 0, and the levels. -/
def ctx : sProp 𝕄 :=
  iprop(((bigSep Finset.univ fun ck : Dev nD × Cl => cellInv ER (Rd m ρ) (K ck) (kcell ck))
    ∗ bigSep Finset.univ fun ck : Dev nD × Cl => reached ER (kcell ck) 0) ∗ levAts L lv)

instance ctx_persistent : BI.Persistent (ctx m ρ K) := by unfold ctx; infer_instance

theorem inv_at (ck : Dev nD × Cl) :
    (bigSep Finset.univ fun ck : Dev nD × Cl => (cellInv ER (Rd m ρ) (K ck) (kcell ck) : sProp 𝕄)) ⊢ cellInv ER (Rd m ρ) (K ck) (kcell ck) :=
  bigSep_elim (Finset.mem_univ ck)
omit [FloatOps F] in
theorem reached_at (ck : Dev nD × Cl) :
    (bigSep Finset.univ fun ck : Dev nD × Cl => (reached ER (kcell ck) 0 : sProp 𝕄)) ⊢ reached ER (kcell ck) 0 :=
  bigSep_elim (Finset.mem_univ ck)
theorem ctx_inv (ck : Dev nD × Cl) : ctx m ρ K ⊢ cellInv ER (Rd m ρ) (K ck) (kcell ck) := by
  unfold ctx; iintro ⟨⟨H, -⟩, -⟩; iapply (inv_at m ρ K ck) $$ H
theorem ctx_reached (ck : Dev nD × Cl) : ctx m ρ K ⊢ reached ER (kcell ck) 0 := by
  unfold ctx; iintro ⟨⟨-, H⟩, -⟩; iapply (reached_at (F := F) ck) $$ H
theorem ctx_lev : ctx m ρ K ⊢ levAts L lv := by
  unfold ctx; iintro ⟨-, H⟩; iexact H

/-- What device `c` owes, whatever waits it has made. -/
def ow (c : Dev nD) (O : Tally) : sProp 𝕄 := iprop(∃ W : Waits sig Unit, owes (c : Thread nD τ) O W)

/-! ## A phase: eight items, those below `n` done -/

def phase (A B : Fin 8 → sProp 𝕄) (n : ℕ) : sProp 𝕄 :=
  bigSep Finset.univ fun i : Fin 8 => if n ≤ i.val then A i else B i

omit [FloatOps F] in
theorem phase_zero (A B : Fin 8 → sProp 𝕄) : phase A B 0 = bigSep Finset.univ A :=
  bigSep_congr fun i _ => if_pos (Nat.zero_le _)
omit [FloatOps F] in
theorem phase_end (A B : Fin 8 → sProp 𝕄) : phase A B 8 = bigSep Finset.univ B :=
  bigSep_congr fun i _ => if_neg (by have := i.isLt; omega)
omit [FloatOps F] in
theorem phase_step (A B : Fin 8 → sProp 𝕄) {n : ℕ} (k : Fin 8) (hk : k.val = n) :
    phase A B n ⊢ iprop(A k ∗ (B k -∗ phase A B (n + 1))) := by
  unfold phase
  refine (bigSep_univ_update (Ψ := fun i : Fin 8 => if n + 1 ≤ i.val then A i else B i) k fun j hj => ?_).trans ?_
  · have : j.val ≠ k.val := fun h => hj (Fin.ext h)
    by_cases hn : n ≤ j.val
    · rw [if_pos hn, if_pos (by omega)]
    · rw [if_neg hn, if_neg (by omega)]
  · rw [if_pos (by omega), if_neg (by omega)]
omit [FloatOps F] in
/-- An item with nothing to do. -/
theorem phase_skip (A B : Fin 8 → sProp 𝕄) {n : ℕ} (k : Fin 8) (hk : k.val = n) (h : A k ⊢ B k) :
    phase A B n ⊢ phase A B (n + 1) := by
  iintro H
  ihave H' := (phase_step A B k hk) $$ H
  icases H' with ⟨HA, HB⟩
  iapply HB
  iapply h $$ HA

abbrev 𝒱₀ : Variants := Variants.none

/-- The weakest precondition of a piece of device `c`'s program. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## Signals on the barrier -/

/-- The signal to device `d` still to come: the token to pay with, and row `d` of device `c`'s buffer. -/
def sigTodo (c : Dev nD) (f : (cc0_scratch0 : Ref sig .tc).ty.Contents (Elt F)) (d : Fin 8) : sProp 𝕄 :=
  iprop(dutyTok ER (kcell (d, bar)) 0 c ∗ rowPts c d f)
/-- Once it is made the row is lent if `d` is below `c`. -/
def sigDone (c : Dev nD) (f : (cc0_scratch0 : Ref sig .tc).ty.Contents (Elt F)) (d : Fin 8) : sProp 𝕄 :=
  if d < c then iprop(emp) else rowPts c d f

theorem bar_pay_lt (c d : Dev nD) (h : d < c) (f : Buf (Elt F) ((c : Thread nD τ).loc cc0_scratch0)) :
    rowPts c d f ⊢ (Rd m ρ).payload ((d : Thread nD τ), .reg barS) 0 c := by
  rw [show ((d : Thread nD τ), SemLoc.reg barS) = kcell (d, bar) from rfl, payload_at]
  show _ ⊢ if d < c then iprop(∃ f, rowPts c d f) else iprop(emp)
  rw [if_pos h]; iintro H; iexists f; iexact H
theorem bar_pay_ge (c d : Dev nD) (h : ¬ d < c) : iprop(emp) ⊢ (Rd m ρ).payload ((d : Thread nD τ), .reg barS) 0 c := by
  rw [show ((d : Thread nD τ), SemLoc.reg barS) = kcell (d, bar) from rfl, payload_at]
  show _ ⊢ if d < c then iprop(∃ f, rowPts c d f) else iprop(emp)
  rw [if_neg h]
theorem bar_rest (c : Dev nD) : bigSep ((Rd m ρ).duties (kcell (c, bar)) 0 \ ∅) (fun d => (Rd m ρ).payload (kcell (c, bar)) 0 d)
    ⊢ bigSep Finset.univ fun d : Fin 8 => if c < d then iprop(∃ f, rowPts d c f) else iprop(emp) := by
  rw [Finset.sdiff_empty, duties_at, bigSep_congr fun d _ => payload_at m ρ c bar d]
  exact BI.Entails.refl _

theorem signal_step (c : Dev nD) (f : (cc0_scratch0 : Ref sig .tc).ty.Contents (Elt F)) {n : ℕ} (d : Fin 8) (hd : d.val = n)
    {D : Dev nD} (hD : D = d) {α : Type} {k : PUnit → Prog (TpuEff nD τ sig (Elt F) Λ₀ .tc) α} {Q : α → sProp 𝕄} {X : sProp 𝕄}
    (hk : iprop(ctx m ρ K ∗ ow c (OB c (n + 1)) ∗ phase (sigTodo c f) (sigDone c f) (n + 1) ∗ X) ⊢ WP c (k ⟨⟩) Q) :
    iprop(ctx m ρ K ∗ ow c (OB c n) ∗ phase (sigTodo c f) (sigDone c f) n ∗ X) ⊢ WP c (semSignalWord D barS 1#32 >>= k) Q := by
  subst hD
  show _ ⊢ WP c (.op (.semSignal ((D, .tc) : Thread nD τ) barS (1#32 : BitVec 32).toInt) k) Q
  iintro ⟨#Hc, HO, HP, HX⟩
  ihave HP' := (phase_step _ _ D hd) $$ HP
  icases HP' with ⟨HA, HB⟩
  unfold sigTodo ow
  icases HA with ⟨Ht, Hr⟩
  icases HO with ⟨%W, HO⟩
  by_cases hlt : D < c
  · iapply (Rounds.wp_signal 𝒱₀ ER (Rd m ρ) (c : Thread nD τ) none (dst := (D : Thread nD τ)) (κ := K (D, bar))
        (d := c) (by rw [show ((D : Thread nD τ), SemLoc.reg barS) = kcell (D, bar) from rfl, duties_at]; exact Finset.mem_univ _)
        rfl () (OB c (n + 1)) (OB_step c D hd)) $$ [HO Ht Hr]
    · isplitr; · iapply (ctx_inv m ρ K (D, bar)); iexact Hc
      isplitl [HO]; · iexact HO
      isplitl [Ht]; · iexact Ht
      isplitl [Hr]
      · iapply (bar_pay_lt m ρ c D hlt f); iexact Hr
      iapply (ctx_reached m ρ K (D, bar)); iexact Hc
    iintro HO
    iapply hk
    unfold ow
    isplitr; · iexact Hc
    isplitl [HO]; · iexists W; iexact HO
    isplitl [HB]; · iapply HB; unfold sigDone; rw [if_pos hlt]; iempintro
    iexact HX
  · iapply (Rounds.wp_signal 𝒱₀ ER (Rd m ρ) (c : Thread nD τ) none (dst := (D : Thread nD τ)) (κ := K (D, bar))
        (d := c) (by rw [show ((D : Thread nD τ), SemLoc.reg barS) = kcell (D, bar) from rfl, duties_at]; exact Finset.mem_univ _)
        rfl () (OB c (n + 1)) (OB_step c D hd)) $$ [HO Ht]
    · isplitr; · iapply (ctx_inv m ρ K (D, bar)); iexact Hc
      isplitl [HO]; · iexact HO
      isplitl [Ht]; · iexact Ht
      isplitr
      · iapply (bar_pay_ge m ρ c D hlt); iempintro
      iapply (ctx_reached m ρ K (D, bar)); iexact Hc
    iintro HO
    iapply hk
    unfold ow
    isplitr; · iexact Hc
    isplitl [HO]; · iexists W; iexact HO
    isplitl [HB Hr]; · iapply HB; unfold sigDone; rw [if_neg hlt]; iexact Hr
    iexact HX

/-- The wait for all eight signals: every device above hands over its row `c`. -/
theorem barrier_step (c : Dev nD) {α : Type} {k : PUnit → Prog (TpuEff nD τ sig (Elt F) Λ₀ .tc) α} {Q : α → sProp 𝕄} {X : sProp 𝕄}
    (hk : iprop(ctx m ρ K ∗ ow c (OS c 1) ∗ atPos ER (kcell (c, bar)) 1 ∅ 0
        ∗ (bigSep Finset.univ fun d : Fin 8 => if c < d then iprop(∃ f, rowPts d c f) else iprop(emp)) ∗ X) ⊢ WP c (k ⟨⟩) Q) :
    iprop(ctx m ρ K ∗ ow c (OS c 1) ∗ (cred (tallyAt (kcell (c, bar)) () 8) ∗ atPos ER (kcell (c, bar)) 0 ∅ 0) ∗ X)
      ⊢ WP c (semWaitWord barS 8#32 >>= k) Q := by
  show _ ⊢ WP c (.op (.semWait barS (8#32 : BitVec 32).toInt) k) Q
  unfold ow at hk ⊢
  iintro ⟨#Hc, ⟨%W, HO⟩, ⟨Hcr, Hat⟩, HX⟩
  iapply (Rounds.wp_wait_rest_token 𝒱₀ ER (Rd m ρ) (c : Thread nD τ) none (κ := K (c, bar))
      (wpE_semWait_eq 𝒱₀ (c : Thread nD τ) none Set.univ) (Set.mem_univ _) () (O := OS c 1) (W := W) (R := 0) (m := 0) (T := ∅)
      (by rw [show ((c : Thread nD τ), SemLoc.reg barS) = kcell (c, bar) from rfl, expect_bar]; decide)) $$ [Hcr HO Hat]
  · isplitr; · iapply (ctx_inv m ρ K (c, bar)); iexact Hc
    isplitl [Hcr]; · iexact Hcr
    isplitl [HO]; · iexact HO
    isplitr
    · iapply (mayWait (F := F) c (.reg barS) 1 (by decide) (above_OS c 1)); iapply (ctx_lev m ρ K); iexact Hc
    iexact Hat
  iintro ⟨HO, Hat, -, Hpay⟩
  iapply hk
  isplitr; · iexact Hc
  isplitl [HO]; · iexists _; iexact HO
  isplitl [Hat]; · iexact Hat
  isplitl [Hpay]
  · iapply (bar_rest m ρ c); iexact Hpay
  iexact HX

/-! ## Sends -/

def sendTodo (c : Dev nD) (k : Fin 8) : sProp 𝕄 :=
  iprop(sbPts m ρ c (lf k) ∗ if c < k then
    iprop((∃ f, rowPts k c f) ∗ dutyTok ER (kcell (c, snd k)) 0 0 ∗ dutyTok ER (kcell (k, rcv c)) 0 0) else iprop(emp))
def sendDone (c : Dev nD) (k : Fin 8) : sProp 𝕄 :=
  if c < k then cred (tallyAt (kcell (c, snd k)) () N) else sbPts m ρ c (lf k)

theorem snd_mem (c k : Dev nD) (h : c < k) : (0 : Fin 8) ∈ (Rd m ρ).duties (kcell (c, snd k)) 0 := by
  rw [duties_snd m ρ c k h]; exact Finset.mem_singleton_self _
theorem rcv_mem (c j : Dev nD) (h : j < c) : (0 : Fin 8) ∈ (Rd m ρ).duties (kcell (c, rcv j)) 0 := by
  rw [duties_rcv m ρ c j h]; exact Finset.mem_singleton_self _
theorem amt_dma (t : Thread nD τ) (q : DmaSem sig) (d : Fin 8) : (Rd m ρ).amount (t, .dma q) 0 d = N := rfl
theorem snd_pay (c : Dev nD) (k : Fin 8) : sbPts m ρ c (lf k) ⊢ (Rd m ρ).payload (kcell (c, snd k)) 0 0 := by
  rw [payload_at]; exact BI.Entails.refl _
theorem snd_rest (c : Dev nD) (k : Fin 8) (h : c < k) :
    bigSep ((Rd m ρ).duties (kcell (c, snd k)) 0 \ ∅) (fun d => (Rd m ρ).payload (kcell (c, snd k)) 0 d) ⊢ sbPts m ρ c (lf k) := by
  rw [Finset.sdiff_empty, duties_snd m ρ c k h, bigSep_singleton, payload_at]; exact BI.Entails.refl _
theorem rcv_rest (c : Dev nD) (j : Fin 8) (h : j < c) :
    bigSep ((Rd m ρ).duties (kcell (c, rcv j)) 0 \ ∅) (fun d => (Rd m ρ).payload (kcell (c, rcv j)) 0 d) ⊢ rowPts c j (bsAll m ρ) := by
  rw [Finset.sdiff_empty, duties_rcv m ρ c j h, bigSep_singleton, payload_at]; exact BI.Entails.refl _
/-- The row as the transfer leaves it is the sender's column sums. -/
theorem rcv_pay (c : Dev nD) (j : Fin 8) (f : Buf (Elt F) ((c : Thread nD τ).loc cc0_scratch0)) :
    rowPts c j ((rowM j).view.write (Elt F) f (sM.view.read (Elt F) (bs m ρ j)) Finset.univ) ⊢ (Rd m ρ).payload (kcell (c, rcv j)) 0 0 := by
  rw [payload_at]
  show _ ⊢ rowPts c j (bsAll m ρ)
  unfold rowPts
  refine Entails.of_eq (pointsTo_congr fun i hi => ?_)
  refine (row_write j f (bs m ρ j) i hi).trans ?_
  unfold bsAll
  exact congrArg (fun x : Fin 8 => bs m ρ x (ix2 (0 : Fin 1) (i (1 : Fin 2)))) (mem_row.mp hi).symm

/-- The transfer of device `c`'s column sums into row `c` of device `k`'s buffer. -/
theorem send_op (c k : Dev nD) (hlt : c < k) (D : Dev nD) (hD : D = k)
    (dst : Memref sig .tc .vmem S1x512 .f32) (hdst : dst = rowM c) (ss rs : DmaSem sig) (hss : ss = sndS k) (hrs : rs = rcvS c)
    {hsc : (dst : Memref sig (Dev.tc D : Thread nD τ).2.kind .vmem S1x512 .f32).view.ref.isScScratch = false}
    {hsrc : (sM : Memref sig .tc .vmem S1x512 .f32).view.WordExact} {hdw : dst.view.WordExact}
    {hsem : DmaTarget.Typed .vmem (.dma rs) (.remote (Dev.tc D : Thread nD τ) (dst : Memref sig .tc .vmem S1x512 .f32) (.dma ss) hsc)}
    {α : Type} {Q : α → sProp 𝕄} {p : PUnit → Prog (TpuEff nD τ sig (Elt F) Λ₀ .tc) α} (O : Tally) (W : Waits sig Unit)
    (f : Buf (Elt F) ((k : Thread nD τ).loc cc0_scratch0)) :
    iprop(cellInv ER (Rd m ρ) (K (c, snd k)) (kcell (c, snd k)) ∗ cellInv ER (Rd m ρ) (K (k, rcv c)) (kcell (k, rcv c))
        ∗ sbPts m ρ c (lf k) ∗ rowPts k c f
        ∗ owes (c : Thread nD τ) (O + tallyAt (kcell (k, rcv c)) () N) W
        ∗ dutyTok ER (kcell (c, snd k)) 0 0 ∗ reached ER (kcell (c, snd k)) 0
        ∗ dutyTok ER (kcell (k, rcv c)) 0 0 ∗ reached ER (kcell (k, rcv c)) 0)
      ⊢ iprop(((cred (tallyAt (kcell (c, snd k)) () N) ∗ owes (c : Thread nD τ) O W) -∗ WP c (p ⟨⟩) Q)
          -∗ WP c (.op (.enqueueDma sM (.remote (Dev.tc D : Thread nD τ) dst (.dma ss) hsc) (.dma rs) hsrc hdw hsem) p) Q) := by
  subst hD hdst hss hrs
  unfold sbPts rowPts
  exact Rounds.wp_send_pointsTo 𝒱₀ ER (Rd m ρ) (c : Thread nD τ) none (κ₁ := K (c, snd D)) (κ₂ := K (D, rcv c))
    (c' := (D : Thread nD τ)) (src := sM) (dst := rowM c) (sS := .dma (sndS D)) (sem := .dma (rcvS c))
    (r₁ := 0) (r₂ := 0) (d₁ := 0) (d₂ := 0) (fd := f)
    (snd_mem m ρ c D hlt) (rcv_mem m ρ D c hlt)
    () () N rfl (amt_dma m ρ _ _ 0) (amt_dma m ρ _ _ 0) O rfl (W := W)
    (snd_pay m ρ c D) (rcv_pay m ρ D c f)

theorem send_step (c : Dev nD) {n : ℕ} (k : Fin 8) (hk : k.val = n) {cnd : Prop} [Decidable cnd] (hc : cnd ↔ c < k)
    {D : cnd → Dev nD} (hD : ∀ h, D h = k) {dst : cnd → Memref sig .tc .vmem S1x512 .f32} (hdst : ∀ h, dst h = rowM c)
    {ss rs : cnd → DmaSem sig} (hss : ∀ h, ss h = sndS k) (hrs : ∀ h, rs h = rcvS c)
    {hsc : ∀ h, (dst h : Memref sig (Dev.tc (D h) : Thread nD τ).2.kind .vmem S1x512 .f32).view.ref.isScScratch = false}
    {hsrc : cnd → (sM : Memref sig .tc .vmem S1x512 .f32).view.WordExact} {hdw : ∀ h, (dst h).view.WordExact}
    {hsem : ∀ h, DmaTarget.Typed .vmem (.dma (rs h)) (.remote (Dev.tc (D h) : Thread nD τ) (dst h : Memref sig .tc .vmem S1x512 .f32) (.dma (ss h)) (hsc h))}
    {α : Type} {Q : α → sProp 𝕄} {p : Prog (TpuEff nD τ sig (Elt F) Λ₀ .tc) α} {X : sProp 𝕄}
    (hp : iprop(ctx m ρ K ∗ ow c (OS c (n + 1)) ∗ phase (sendTodo m ρ c) (sendDone m ρ c) (n + 1) ∗ X) ⊢ WP c p Q) :
    iprop(ctx m ρ K ∗ ow c (OS c n) ∗ phase (sendTodo m ρ c) (sendDone m ρ c) n ∗ X)
      ⊢ WP c (dite cnd (fun h => Prog.lift (.enqueueDma sM (.remote (Dev.tc (D h) : Thread nD τ) (dst h) (.dma (ss h)) (hsc h)) (.dma (rs h)) (hsrc h) (hdw h) (hsem h))
          >>= fun _ => p) (fun _ => p)) Q := by
  by_cases h : cnd
  · rw [dif_pos h]
    have hlt := hc.mp h
    show _ ⊢ WP c (.op (.enqueueDma sM (.remote (Dev.tc (D h) : Thread nD τ) (dst h) (.dma (ss h)) (hsc h)) (.dma (rs h)) (hsrc h) (hdw h) (hsem h)) fun _ => p) Q
    iintro ⟨#Hc, HO, HP, HX⟩
    ihave HP' := (phase_step _ _ k hk) $$ HP
    icases HP' with ⟨HA, HB⟩
    unfold sendTodo ow
    rw [if_pos hlt, OS_step c k hk, show oRcv c k = _ from if_pos hlt]
    icases HA with ⟨Hs, ⟨%f, Hr⟩, Ht, Ht'⟩
    icases HO with ⟨%W, HO⟩
    iapply (send_op m ρ K c k hlt (D h) (hD h) (dst h) (hdst h) (ss h) (rs h) (hss h) (hrs h) (p := fun _ => p) (OS c (n + 1)) W f) $$ [Hs Hr HO Ht Ht']
    · isplitr; · iapply (ctx_inv m ρ K (c, snd k)); iexact Hc
      isplitr; · iapply (ctx_inv m ρ K (k, rcv c)); iexact Hc
      isplitl [Hs]; · iexact Hs
      isplitl [Hr]; · iexact Hr
      isplitl [HO]; · iexact HO
      isplitl [Ht]; · iexact Ht
      isplitr; · iapply (ctx_reached m ρ K (c, snd k)); iexact Hc
      isplitl [Ht']; · iexact Ht'
      iapply (ctx_reached m ρ K (k, rcv c)); iexact Hc
    iintro ⟨Hcr, HO⟩
    iapply hp
    unfold ow
    isplitr; · iexact Hc
    isplitl [HO]; · iexists W; iexact HO
    isplitl [HB Hcr]; · iapply HB; unfold sendDone; rw [if_pos hlt]; iexact Hcr
    iexact HX
  · rw [dif_neg h]
    have hlt : ¬ c < k := fun h' => h (hc.mpr h')
    refine BI.Entails.trans ?_ hp
    rw [OS_step c k hk, show oRcv c k = _ from if_neg hlt, add_zero]
    refine sep_mono_right (sep_mono_right (sep_mono_left (phase_skip _ _ k hk ?_)))
    unfold sendTodo sendDone
    rw [if_neg hlt, if_neg hlt]
    exact (sep_emp (PROP := sProp 𝕄)).1

/-! ## Receives -/

/-- A communication buffer after the receives: the rows below `c` are the senders' column sums. -/
def gath (c : Dev nD) (f : (cc0_scratch0 : Ref sig .tc).ty.Contents (Elt F)) : (cc0_scratch0 : Ref sig .tc).ty.Contents (Elt F) :=
  fun i => if (i (0 : Fin 2) : Fin 8) < c then bsAll m ρ i else f i

def recvTodo (c : Dev nD) (f : (cc0_scratch0 : Ref sig .tc).ty.Contents (Elt F)) (j : Fin 8) : sProp 𝕄 :=
  iprop(atPos ER (kcell (c, rcv j)) 0 ∅ 0 ∗ if j < c then
    iprop(cred (tallyAt (kcell (c, rcv j)) () N) ∗ dutyTok ER (kcell (j, ack)) 0 c) else rowPts c j f)
def recvDone (c : Dev nD) (f : (cc0_scratch0 : Ref sig .tc).ty.Contents (Elt F)) (j : Fin 8) : sProp 𝕄 :=
  iprop(atPos ER (kcell (c, rcv j)) (if j < c then 1 else 0) ∅ 0 ∗ rowPts c j (gath m ρ c f))

theorem gath_lt (c : Dev nD) (f) (j : Fin 8) (h : j < c) : rowPts c j (bsAll m ρ) ⊢ rowPts c j (gath m ρ c f) := by
  unfold rowPts
  exact Entails.of_eq (pointsTo_congr fun i hi => (if_pos (by rw [mem_row.mp hi]; exact h)).symm)
theorem gath_ge (c : Dev nD) (f) (j : Fin 8) (h : ¬ j < c) : rowPts c j f ⊢ rowPts c j (gath m ρ c f) := by
  unfold rowPts
  exact Entails.of_eq (pointsTo_congr fun i hi => (if_neg (by rw [mem_row.mp hi]; exact h)).symm)

theorem ack_pay (c j : Dev nD) : iprop(emp) ⊢ (Rd m ρ).payload ((j : Thread nD τ), .reg ackS) 0 c := by
  rw [show ((j : Thread nD τ), SemLoc.reg ackS) = kcell (j, ack) from rfl, payload_at]; exact BI.Entails.refl _

theorem recv_step (c : Dev nD) (f : (cc0_scratch0 : Ref sig .tc).ty.Contents (Elt F)) {n : ℕ} (j : Fin 8) (hj : j.val = n)
    {cnd : Prop} [Decidable cnd] (hc : cnd ↔ j < c)
    {D : cnd → Dev nD} (hD : ∀ h, D h = j) {dst : cnd → Memref sig .tc .vmem S1x512 .f32} (hdst : ∀ h, (dst h).view.dmaCredit = N)
    {rs : cnd → DmaSem sig} (hrs : ∀ h, rs h = rcvS j)
    {hsrc : cnd → (sM : Memref sig .tc .vmem S1x512 .f32).view.WordExact} {hdw : ∀ h, (dst h).view.WordExact}
    {α : Type} {Q : α → sProp 𝕄} {p : Prog (TpuEff nD τ sig (Elt F) Λ₀ .tc) α} {X : sProp 𝕄}
    (hp : iprop(ctx m ρ K ∗ ow c (OR c (n + 1)) ∗ phase (recvTodo c f) (recvDone m ρ c f) (n + 1) ∗ X) ⊢ WP c p Q) :
    iprop(ctx m ρ K ∗ ow c (OR c n) ∗ phase (recvTodo c f) (recvDone m ρ c f) n ∗ X)
      ⊢ WP c (dite cnd (fun h => Prog.lift (.waitDma2 (rs h) sM (dst h) (hsrc h) (hdw h)) >>= fun _ => semSignalWord (D h) ackS 1#32 >>= fun _ => p) (fun _ => p)) Q := by
  by_cases h : cnd
  · rw [dif_pos h]
    have hlt := hc.mp h
    show _ ⊢ WP c (.op (.waitDma2 (rs h) sM (dst h) (hsrc h) (hdw h)) fun _ =>
      .op (.semSignal ((D h, .tc) : Thread nD τ) ackS (1#32 : BitVec 32).toInt) fun _ => p) Q
    rw [hD h, hrs h]
    iintro ⟨#Hc, HO, HP, HX⟩
    ihave HP' := (phase_step _ _ j hj) $$ HP
    icases HP' with ⟨HA, HB⟩
    unfold recvTodo ow
    rw [if_pos hlt]
    icases HA with ⟨Hat, Hcr, Ht⟩
    icases HO with ⟨%W, HO⟩
    iapply (Rounds.wp_wait_rest_token 𝒱₀ ER (Rd m ρ) (c : Thread nD τ) none (κ := K (c, rcv j)) (sm := .dma (rcvS j))
        (wpE_waitDma2_eq 𝒱₀ (c : Thread nD τ) none Set.univ) (Set.mem_univ _) () (O := OR c n) (W := W) (R := 0) (m := 0) (T := ∅)
        (by rw [show ((c : Thread nD τ), SemLoc.dma (rcvS j)) = kcell (c, rcv j) from rfl, expect_rcv m ρ c j hlt, hdst h, Nat.zero_add])) $$ [Hcr HO Hat]
    · rw [hdst h]
      isplitr; · iapply (ctx_inv m ρ K (c, rcv j)); iexact Hc
      isplitl [Hcr]; · iexact Hcr
      isplitl [HO]; · iexact HO
      isplitr
      · iapply (mayWait (F := F) c (.dma (rcvS j)) 2 (by rw [show SemLoc.dma (rcvS j) = csem (rcv j) from rfl, kind_csem]; exact Nat.le_refl 2) (above_OR c n))
        iapply (ctx_lev m ρ K); iexact Hc
      iexact Hat
    iintro ⟨HO, Hat, -, Hpay⟩
    ihave Hpay := (show _ ⊢ rowPts c j (bsAll m ρ) from rcv_rest m ρ c j hlt) $$ Hpay
    iapply (Rounds.wp_signal 𝒱₀ ER (Rd m ρ) (c : Thread nD τ) none (dst := (j : Thread nD τ)) (κ := K (j, ack))
        (d := c) (by
          rw [show ((j : Thread nD τ), SemLoc.reg ackS) = kcell (j, ack) from rfl, duties_at]
          exact Finset.mem_filter.mpr ⟨Finset.mem_univ _, hlt⟩)
        rfl () (OR c (n + 1)) ((OR_step c j hj).trans (congrArg (OR c (n + 1) + ·) (if_pos hlt)))) $$ [HO Ht]
    · isplitr; · iapply (ctx_inv m ρ K (j, ack)); iexact Hc
      isplitl [HO]; · iexact HO
      isplitl [Ht]; · iexact Ht
      isplitr
      · iapply (ack_pay m ρ c j); iempintro
      iapply (ctx_reached m ρ K (j, ack)); iexact Hc
    iintro HO
    iapply hp
    unfold ow
    isplitr; · iexact Hc
    isplitl [HO]; · iexists _; iexact HO
    isplitl [HB Hat Hpay]
    · iapply HB; unfold recvDone; rw [if_pos hlt]
      isplitl [Hat]; · iexact Hat
      iapply (gath_lt m ρ c f j hlt); iexact Hpay
    iexact HX
  · rw [dif_neg h]
    have hlt : ¬ j < c := fun h' => h (hc.mpr h')
    refine BI.Entails.trans ?_ hp
    rw [OR_step c j hj, show oAck c j = _ from if_neg hlt, add_zero]
    refine sep_mono_right (sep_mono_right (sep_mono_left (phase_skip _ _ j hj ?_)))
    unfold recvTodo recvDone
    rw [if_neg hlt, if_neg hlt]
    exact sep_mono_right (gath_ge m ρ c f j hlt)

/-! ## The waits for the sends and their acknowledgements -/

def finTodo (c : Dev nD) (k : Fin 8) : sProp 𝕄 :=
  iprop(atPos ER (kcell (c, snd k)) 0 ∅ 0 ∗ if c < k then
    iprop(cred (tallyAt (kcell (c, snd k)) () N) ∗ cred (tallyAt (kcell (c, ack)) () 1)) else sbPts m ρ c (lf k))
def finDone (c : Dev nD) (k : Fin 8) : sProp 𝕄 :=
  iprop(atPos ER (kcell (c, snd k)) (if c < k then 1 else 0) ∅ 0 ∗ sbPts m ρ c (lf k))

/-- Device `c`'s place on its acknowledgement cell before the wait for device `n`. -/
def ackAt (c : Dev nD) (n : ℕ) : sProp 𝕄 :=
  if c.val = 7 then atPos ER (kcell (c, ack)) 0 ∅ 0
  else if n ≤ 7 then iprop(∃ T : Finset (Fin 8), atPos ER (kcell (c, ack)) 0 T (n - 1 - c.val))
  else atPos ER (kcell (c, ack)) 1 ∅ 0

theorem ack_wait (c : Dev nD) {n : ℕ} (k : Fin 8) (hk : k.val = n) (hlt : c < k) {α : Type} {Q : α → sProp 𝕄}
    {p : PUnit → Prog (TpuEff nD τ sig (Elt F) Λ₀ .tc) α} :
    iprop(ctx m ρ K ∗ ow c 0 ∗ cred (tallyAt (kcell (c, ack)) () 1) ∗ ackAt c n)
      ⊢ iprop(((ow c 0 ∗ ackAt c (n + 1)) -∗ WP c (p ⟨⟩) Q) -∗ WP c (.op (.semWait ackS (1#32 : BitVec 32).toInt) p) Q) := by
  have hc : c.val < k.val := hlt
  have hk8 := k.isLt
  unfold ackAt ow
  rw [if_neg (by omega), if_pos (by omega)]
  iintro ⟨#Hc, ⟨%W, HO⟩, Hcr, ⟨%T, Hat⟩⟩ Hp
  by_cases h7 : n = 7
  · iapply (Rounds.wp_wait_rest_token 𝒱₀ ER (Rd m ρ) (c : Thread nD τ) none (κ := K (c, ack))
      (wpE_semWait_eq 𝒱₀ (c : Thread nD τ) none Set.univ) (Set.mem_univ _) () (O := 0) (W := W) (R := 0) (m := n - 1 - c.val) (T := T)
      (by
        rw [show ((c : Thread nD τ), SemLoc.reg ackS) = kcell (c, ack) from rfl, expect_ack]
        show n - 1 - c.val + 1 = 7 - c.val
        omega)) $$ [Hcr HO Hat]
    · isplitr; · iapply (ctx_inv m ρ K (c, ack)); iexact Hc
      isplitl [Hcr]; · iexact Hcr
      isplitl [HO]; · iexact HO
      isplitr; · rw [MayWait_zero]; iempintro
      iexact Hat
    iintro ⟨HO, Hat, -, -⟩
    iapply Hp
    isplitl [HO]; · iexists _; iexact HO
    rw [if_neg (by omega), if_neg (by omega)]
    iexact Hat
  · iapply (Rounds.wp_wait 𝒱₀ ER (Rd m ρ) (c : Thread nD τ) none (κ := K (c, ack)) (k' := 1)
      (wpE_semWait_eq 𝒱₀ (c : Thread nD τ) none Set.univ) (Set.mem_univ _) (cr := Finsupp.single () 1) (O := 0) (W := W) ({(SemLoc.reg ackS, ())} : Waits sig Unit)
      (R := 0) (m := n - 1 - c.val) (T := T) (Idealize.SL.Util.total_single () 1) (by
        intro x hx
        obtain ⟨u, -, rfl⟩ := Finset.mem_image.mp hx
        exact Finset.mem_singleton_self _)) $$ [Hcr HO Hat]
    · isplitr; · iapply (ctx_inv m ρ K (c, ack)); iexact Hc
      isplitl [Hcr]; · iexact Hcr
      isplitl [HO]; · iexact HO
      isplitr; · rw [MayOwe_zero]; iempintro
      iexact Hat
    iintro %S ⟨-, HO, Hat, -⟩
    iapply Hp
    isplitl [HO]; · iexists _; iexact HO
    rw [if_neg (by omega), if_pos (by omega), show n + 1 - 1 - c.val = n - 1 - c.val + 1 by omega]
    iexists S; iexact Hat

theorem ackAt_skip (c : Dev nD) {n : ℕ} (hn : n ≤ c.val) : (ackAt c n : sProp 𝕄) ⊢ ackAt c (n + 1) := by
  have := c.isLt
  have : c.val < 8 := this
  unfold ackAt
  by_cases h7 : c.val = 7
  · rw [if_pos h7, if_pos h7]
  · rw [if_neg h7, if_neg h7, if_pos (by omega), if_pos (by omega), show n + 1 - 1 - c.val = n - 1 - c.val by omega]

theorem fin_step (c : Dev nD) {n : ℕ} (k : Fin 8) (hk : k.val = n)
    {cnd : Prop} [Decidable cnd] (hc : cnd ↔ c < k)
    {src dst : cnd → Memref sig .tc .vmem S1x512 .f32} (hdst : ∀ h, (dst h).view.dmaCredit = N)
    {ss : cnd → DmaSem sig} (hss : ∀ h, ss h = sndS k)
    {hsrc : ∀ h, (src h).view.WordExact} {hdw : ∀ h, (dst h).view.WordExact}
    {α : Type} {Q : α → sProp 𝕄} {p : Prog (TpuEff nD τ sig (Elt F) Λ₀ .tc) α} {X : sProp 𝕄}
    (hp : iprop(ctx m ρ K ∗ ow c 0 ∗ (ackAt c (n + 1) ∗ phase (finTodo m ρ c) (finDone m ρ c) (n + 1)) ∗ X) ⊢ WP c p Q) :
    iprop(ctx m ρ K ∗ ow c 0 ∗ (ackAt c n ∗ phase (finTodo m ρ c) (finDone m ρ c) n) ∗ X)
      ⊢ WP c (dite cnd (fun h => Prog.lift (.waitDma2 (ss h) (src h) (dst h) (hsrc h) (hdw h)) >>= fun _ => semWaitWord ackS 1#32 >>= fun _ => p) (fun _ => p)) Q := by
  by_cases h : cnd
  · rw [dif_pos h]
    have hlt := hc.mp h
    show _ ⊢ WP c (.op (.waitDma2 (ss h) (src h) (dst h) (hsrc h) (hdw h)) fun _ =>
      .op (.semWait ackS (1#32 : BitVec 32).toInt) fun _ => p) Q
    rw [hss h]
    iintro ⟨#Hc, HO, ⟨Hack, HP⟩, HX⟩
    ihave HP' := (phase_step _ _ k hk) $$ HP
    icases HP' with ⟨HA, HB⟩
    unfold finTodo ow
    rw [if_pos hlt]
    icases HA with ⟨Hat, Hcr, Hca⟩
    icases HO with ⟨%W, HO⟩
    iapply (Rounds.wp_wait_rest_token 𝒱₀ ER (Rd m ρ) (c : Thread nD τ) none (κ := K (c, snd k)) (sm := .dma (sndS k))
        (wpE_waitDma2_eq 𝒱₀ (c : Thread nD τ) none Set.univ) (Set.mem_univ _) () (O := 0) (W := W) (R := 0) (m := 0) (T := ∅)
        (by rw [show ((c : Thread nD τ), SemLoc.dma (sndS k)) = kcell (c, snd k) from rfl, expect_snd m ρ c k hlt, hdst h, Nat.zero_add])) $$ [Hcr HO Hat]
    · rw [hdst h]
      isplitr; · iapply (ctx_inv m ρ K (c, snd k)); iexact Hc
      isplitl [Hcr]; · iexact Hcr
      isplitl [HO]; · iexact HO
      isplitr; · rw [MayWait_zero]; iempintro
      iexact Hat
    iintro ⟨HO, Hat, -, Hpay⟩
    ihave Hpay := (show _ ⊢ sbPts m ρ c (lf k) from snd_rest m ρ c k hlt) $$ Hpay
    iapply (ack_wait m ρ K c k hk hlt) $$ [HO Hca Hack]
    · isplitr; · iexact Hc
      isplitl [HO]; · unfold ow; iexists _; iexact HO
      isplitl [Hca]; · iexact Hca
      iexact Hack
    iintro ⟨HO, Hack⟩
    iapply hp
    isplitr; · iexact Hc
    isplitl [HO]; · iexact HO
    isplitl [HB Hat Hpay Hack]
    · isplitl [Hack]; · iexact Hack
      iapply HB; unfold finDone; rw [if_pos hlt]
      isplitl [Hat]; · iexact Hat
      iexact Hpay
    iexact HX
  · rw [dif_neg h]
    have hlt : ¬ c < k := fun h' => h (hc.mpr h')
    have hle : n ≤ c.val := by
      have : ¬ c.val < k.val := hlt
      omega
    refine BI.Entails.trans ?_ hp
    refine sep_mono_right (sep_mono_right (sep_mono_left ((sep_mono_left (ackAt_skip c hle)).trans (sep_mono_right (phase_skip _ _ k hk ?_)))))
    unfold finTodo finDone
    rw [if_neg hlt, if_neg hlt]

end Cert.KernelIdealProof
-- ==== Proof.KernelIdealBody.lean ====
/-
# The body of the kernel on one device

The parts of the body in program order, each by the step lemmas of the exchange, then the whole body from what the
launch deals a device to the kernel's result with every cell closed.
-/
module

public import proofs.«01_k».proof.Proof.KernelIdealSteps

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 eq_ix2)

variable {F : FTy → Type} [FloatOps F]

local notation "𝕄" => MT nD τ sig Unit (Elt F) ℕ UU ℕ

variable (m : (ℓ : Loc nD τ sig) → Buf (Elt F) ℓ) (ρ : Dev nD → PrngReg) (K : Dev nD × Cl → ℕ)

/-! ## Buffers whole, by rows and by shares -/

abbrev xP (c : Dev nD) (f : Buf (Elt F) ((c : Thread nD τ).loc cc0_stg0_0)) : sProp 𝕄 := ((c : Thread nD τ).loc cc0_stg0_0) ↦{fullShare} f
abbrev oP (c : Dev nD) (f : Buf (Elt F) ((c : Thread nD τ).loc cc0_stg1_0)) : sProp 𝕄 := ((c : Thread nD τ).loc cc0_stg1_0) ↦{fullShare} f
abbrev gP (c : Dev nD) (f : Buf (Elt F) ((c : Thread nD τ).loc cc0_scratch0)) : sProp 𝕄 := ((c : Thread nD τ).loc cc0_scratch0) ↦{fullShare} f
abbrev sP (c : Dev nD) (f : Buf (Elt F) ((c : Thread nD τ).loc cc0_scratch1)) : sProp 𝕄 := ((c : Thread nD τ).loc cc0_scratch1) ↦{fullShare} f

theorem rows_disjoint (j j' : Fin 8) (h : j ≠ j') : Disjoint (rowSet j) (rowSet j') :=
  Finset.disjoint_left.mpr fun i hi hi' => h ((mem_row.mp hi).symm.trans (mem_row.mp hi'))
theorem rows_cover : Finset.univ.biUnion rowSet = (Finset.univ : Finset S8x512.Idx) := by
  ext i
  simp only [Finset.mem_biUnion, Finset.mem_univ, true_and, iff_true]
  exact ⟨i 0, mem_row.mpr rfl⟩

omit [FloatOps F] in
theorem rows_eq (c : Dev nD) (f : Buf (Elt F) ((c : Thread nD τ).loc cc0_scratch0)) :
    (gP c f : sProp 𝕄) = bigSep Finset.univ fun j : Fin 8 => rowPts c j f :=
  Ring.pointsTo_blocks (ℓ := (c : Thread nD τ).loc cc0_scratch0) rowSet rows_disjoint rows_cover f

theorem shares_eq (c : Dev nD) : (sP c (bs m ρ c) : sProp 𝕄) = bigSep Finset.univ fun k : Fin 8 => sbPts m ρ c (lf k) := by
  unfold sbPts
  rw [View.set_whole]
  exact ShareLeaves.pointsTo_leaves (ℓ := (c : Thread nD τ).loc cc0_scratch1) Finset.univ (bs m ρ c) 3 fullShare

omit [FloatOps F] in
/-- Two families joined item by item. -/
theorem join2 {I : Type} [Fintype I] [DecidableEq I] {A B C : I → sProp 𝕄} (h : ∀ i, iprop(A i ∗ B i) ⊢ C i) :
    iprop(bigSep Finset.univ A ∗ bigSep Finset.univ B) ⊢ bigSep Finset.univ C := by
  rw [← bigSep_sep']; exact bigSep_mono fun i _ => h i
omit [FloatOps F] in
theorem split2 {I : Type} [Fintype I] [DecidableEq I] {A B C : I → sProp 𝕄} (h : ∀ i, C i ⊢ iprop(A i ∗ B i)) :
    bigSep Finset.univ C ⊢ iprop(bigSep Finset.univ A ∗ bigSep Finset.univ B) := by
  rw [← bigSep_sep']; exact bigSep_mono fun i _ => h i

/-! ## What a device starts with for each phase -/

def sigIn (c : Dev nD) : sProp 𝕄 := bigSep Finset.univ fun d : Fin 8 => dutyTok ER (kcell (d, bar)) 0 c
def sendIn (c : Dev nD) : sProp 𝕄 := bigSep Finset.univ fun k : Fin 8 =>
  if c < k then iprop(dutyTok ER (kcell (c, snd k)) 0 0 ∗ dutyTok ER (kcell (k, rcv c)) 0 0) else iprop(emp)
def recvIn (c : Dev nD) : sProp 𝕄 := bigSep Finset.univ fun j : Fin 8 =>
  iprop(atPos ER (kcell (c, rcv j)) 0 ∅ 0 ∗ if j < c then iprop(cred (tallyAt (kcell (c, rcv j)) () N) ∗ dutyTok ER (kcell (j, ack)) 0 c) else iprop(emp))
def finIn (c : Dev nD) : sProp 𝕄 := bigSep Finset.univ fun k : Fin 8 =>
  iprop(atPos ER (kcell (c, snd k)) 0 ∅ 0 ∗ if c < k then cred (tallyAt (kcell (c, ack)) () 1) else iprop(emp))

omit [FloatOps F] in
theorem sig_intro (c : Dev nD) (f : Buf (Elt F) ((c : Thread nD τ).loc cc0_scratch0)) :
    iprop(sigIn c ∗ gP c f) ⊢ phase (sigTodo c f) (sigDone c f) 0 := by
  rw [phase_zero, rows_eq]; unfold sigIn
  exact join2 fun d => BI.Entails.refl _

omit [FloatOps F] in
theorem ite_join {p : Prop} [Decidable p] {A A' C : sProp 𝕄} (h : p → iprop(A ∗ A') ⊢ C) :
    iprop((if p then A else iprop(emp)) ∗ (if p then A' else iprop(emp))) ⊢ if p then C else iprop(emp) := by
  by_cases hp : p
  · rw [if_pos hp, if_pos hp, if_pos hp]; exact h hp
  · rw [if_neg hp, if_neg hp, if_neg hp]; exact (sep_emp (PROP := sProp 𝕄)).1

theorem send_intro (c : Dev nD) :
    iprop(sP c (bs m ρ c) ∗ (bigSep Finset.univ fun d : Fin 8 => if c < d then iprop(∃ f, rowPts d c f) else iprop(emp)) ∗ sendIn c)
      ⊢ phase (sendTodo m ρ c) (sendDone m ρ c) 1 := by
  refine BI.Entails.trans ?_ (phase_skip (n := 0) _ _ (0 : Fin 8) rfl ?_)
  · rw [phase_zero, shares_eq]; unfold sendIn
    refine (sep_mono_right (join2 fun k => ite_join (C := iprop((∃ f, rowPts k c f) ∗ dutyTok ER (kcell (c, snd k)) 0 0 ∗ dutyTok ER (kcell (k, rcv c)) 0 0))
      fun _ => BI.Entails.refl _)).trans ?_
    exact join2 fun k => BI.Entails.refl _
  · have h : ¬ c < (0 : Fin 8) := by revert c; decide
    unfold sendTodo sendDone
    rw [if_neg h, if_neg h]; exact (sep_emp (PROP := sProp 𝕄)).1

omit [FloatOps F] in
theorem recv_intro (c : Dev nD) (f : Buf (Elt F) ((c : Thread nD τ).loc cc0_scratch0)) :
    iprop(bigSep Finset.univ (sigDone c f) ∗ recvIn c) ⊢ bigSep Finset.univ (recvTodo c f) := by
  unfold recvIn
  refine join2 fun j => ?_
  unfold sigDone recvTodo
  by_cases h : j < c
  · rw [if_pos h, if_pos h, if_pos h]
    iintro ⟨H, Hat, Hr⟩
    isplitl [Hat]; · iexact Hat
    iexact Hr
  · rw [if_neg h, if_neg h, if_neg h]
    iintro ⟨H, Hat, Hr⟩
    isplitl [Hat]; · iexact Hat
    iexact H

theorem fin_intro (c : Dev nD) :
    iprop(bigSep Finset.univ (sendDone m ρ c) ∗ finIn c) ⊢ phase (finTodo m ρ c) (finDone m ρ c) 1 := by
  refine BI.Entails.trans ?_ (phase_skip (n := 0) _ _ (0 : Fin 8) rfl ?_)
  · rw [phase_zero]; unfold finIn
    refine join2 fun k => ?_
    unfold sendDone finTodo
    by_cases h : c < k
    · rw [if_pos h, if_pos h, if_pos h]
      iintro ⟨H, Hat, Hr⟩
      isplitl [Hat]; · iexact Hat
      isplitl [H]; · iexact H
      iexact Hr
    · rw [if_neg h, if_neg h, if_neg h]
      iintro ⟨H, Hat, Hr⟩
      isplitl [Hat]; · iexact Hat
      iexact H
  · have h : ¬ c < (0 : Fin 8) := by revert c; decide
    unfold finTodo finDone
    rw [if_neg h, if_neg h]

omit [FloatOps F] in
theorem ack_intro (c : Dev nD) : (atPos ER (kcell (c, ack)) 0 ∅ 0 : sProp 𝕄) ⊢ ackAt c 1 := by
  unfold ackAt
  by_cases h : c.val = 7
  · rw [if_pos h]
  · rw [if_neg h, if_pos (by decide), show 1 - 1 - c.val = 0 by omega]
    iintro H; iexists ∅; iexact H

/-! ## Loads and stores of whole buffers -/

abbrev rX : Rect S512x512 := Rect.unit (s := S512x512) ![0, 0] S512x512.size inb_S512x512_S512x512_0_0
abbrev rG : Rect S8x512 := Rect.unit (s := S8x512) ![0, 0] S8x512.size inb_S8x512_S8x512_0_0
abbrev rS : Rect S1x512 := Rect.unit (s := S1x512) ![0, 0] S1x512.size inb_S1x512_S1x512_0_0

omit [FloatOps F] in
theorem hz : (![0, 0] : Fin 2 → Nat) = fun _ => 0 := funext fun a => by fin_cases a <;> rfl
omit [FloatOps F] in
theorem read_x (f : (cc0_stg0_0 : Ref sig .tc).ty.Contents (Elt F)) : xM.view.readAt (Elt F) rX.toLoadRect f = f :=
  Memref.readAt_unit_zero (Elt F) cc0_stg0_0 hz _ f
omit [FloatOps F] in
theorem read_o (f : (cc0_stg1_0 : Ref sig .tc).ty.Contents (Elt F)) : oM.view.readAt (Elt F) rX.toLoadRect f = f :=
  Memref.readAt_unit_zero (Elt F) cc0_stg1_0 hz _ f
omit [FloatOps F] in
theorem read_g (f : (cc0_scratch0 : Ref sig .tc).ty.Contents (Elt F)) : gM.view.readAt (Elt F) rG.toLoadRect f = f :=
  Memref.readAt_unit_zero (Elt F) cc0_scratch0 hz _ f
omit [FloatOps F] in
theorem write_o (f w : (cc0_stg1_0 : Ref sig .tc).ty.Contents (Elt F)) :
    (oM.access rX : View sig .tc _ _ _).write (Elt F) f w Finset.univ = w :=
  Memref.write_access_unit_zero_univ (Elt F) cc0_stg1_0 hz _ f w
omit [FloatOps F] in
theorem write_s (f w : (cc0_scratch1 : Ref sig .tc).ty.Contents (Elt F)) :
    (sM.access rS : View sig .tc _ _ _).write (Elt F) f w Finset.univ = w :=
  Memref.write_access_unit_zero_univ (Elt F) cc0_scratch1 hz _ f w

/-! ## The parts -/

/-- The device's number as the kernel computes it. -/
abbrev vdev (c : Dev nD) : BitVec 32 := Scalar.remsi (Scalar.divsi (Dev.word c) 1#32) 8#32
abbrev barA : Sems sig S_ := SemArray.scalar (sig.barrier 0 rfl)

theorem device_step (c : Dev nD) {α : Type} {k : Dev nD → Prog (TpuEff nD τ sig (Elt F) Λ₀ .tc) α} {Q : α → sProp 𝕄} {P : sProp 𝕄}
    (h : P ⊢ WP c (k c) Q) : P ⊢ WP c (Prog.lift .deviceId >>= k) Q := by
  rw [Prog.bind_lift]
  exact h.trans (Entails.of_eq (wp_deviceId 𝒱₀ (c : Thread nD τ) none Set.univ).symm)

/-- Part 1: the signals to devices 0 to 6. -/
theorem part1 (c : Dev nD) (f : Buf (Elt F) ((c : Thread nD τ).loc cc0_scratch0)) {X : sProp 𝕄} {Q} (v18 : BitVec 32) (h18 : v18 = Scalar.muli 7#32 1#32)
    (hQ : iprop(ctx m ρ K ∗ ow c (OB c 7) ∗ phase (sigTodo c f) (sigDone c f) 7 ∗ X) ⊢ Q ⟨c, vdev c, barA, v18⟩) :
    iprop(ctx m ρ K ∗ ow c (OB c 0) ∗ phase (sigTodo c f) (sigDone c f) 0 ∗ X)
      ⊢ WP c (k0_part1 (F := F) xM (Memref.isWhole_whole _) oM (Memref.isWhole_whole _) gM (Memref.isWhole_whole _) sM (Memref.isWhole_whole _) cc0_scratch2 cc0_scratch3 cc0_scratch4) Q := by
  subst h18
  rw [k0_part1_eq_skeleton]; unfold k0_part1_skel
  refine device_step c ?_
  refine signal_step (n := 0) m ρ K c f (0 : Fin 8) rfl rfl ?_
  refine signal_step (n := 1) m ρ K c f (1 : Fin 8) rfl rfl ?_
  refine signal_step (n := 2) m ρ K c f (2 : Fin 8) rfl rfl ?_
  refine signal_step (n := 3) m ρ K c f (3 : Fin 8) rfl rfl ?_
  refine signal_step (n := 4) m ρ K c f (4 : Fin 8) rfl rfl ?_
  refine signal_step (n := 5) m ρ K c f (5 : Fin 8) rfl rfl ?_
  refine signal_step (n := 6) m ρ K c f (6 : Fin 8) rfl rfl ?_
  exact hQ.trans fupd_intro

set_option maxHeartbeats 2000000 in
/-- Part 2: the last signal, the barrier, the column sums stored, and the sends to devices 1 to 6. -/
theorem part2 (c : Dev nD) (f : Buf (Elt F) ((c : Thread nD τ).loc cc0_scratch0)) {X : sProp 𝕄} {Q} (v18 : BitVec 32)
    (hQ : iprop(ctx m ρ K ∗ ow c (OS c 7) ∗ phase (sendTodo m ρ c) (sendDone m ρ c) 7
        ∗ (bigSep Finset.univ (sigDone c f) ∗ atPos ER (kcell (c, bar)) 1 ∅ 0 ∗ xP c (xstg m ρ c) ∗ X)) ⊢ Q (k0_pay1 (xstg m ρ c))) :
    iprop(ctx m ρ K ∗ ow c (OB c 7) ∗ phase (sigTodo c f) (sigDone c f) 7
        ∗ ((cred (tallyAt (kcell (c, bar)) () 8) ∗ atPos ER (kcell (c, bar)) 0 ∅ 0) ∗ xP c (xstg m ρ c) ∗ (∃ g, sP c g) ∗ sendIn c ∗ X))
      ⊢ WP c (k0_part2 (F := F) xM (Memref.isWhole_whole _) oM (Memref.isWhole_whole _) gM (Memref.isWhole_whole _) sM (Memref.isWhole_whole _) cc0_scratch2 cc0_scratch3 cc0_scratch4
          c (vdev c) barA v18) Q := by
  rw [k0_part2_eq_skeleton]; unfold k0_part2_skel
  refine signal_step (n := 7) m ρ K c f (7 : Fin 8) rfl rfl ?_
  rw [phase_end, OB_end]
  refine BI.Entails.trans (Q := iprop(ctx m ρ K ∗ ow c (OS c 1) ∗ (cred (tallyAt (kcell (c, bar)) () 8) ∗ atPos ER (kcell (c, bar)) 0 ∅ 0)
    ∗ (bigSep Finset.univ (sigDone c f) ∗ xP c (xstg m ρ c) ∗ (∃ g, sP c g) ∗ sendIn c ∗ X))) ?_ (barrier_step m ρ K c ?_)
  · show (_ : sProp 𝕄) ⊢ _
    iintro ⟨Hc, HO, Hs, Hb, HX⟩
    isplitl [Hc]; · iexact Hc
    isplitl [HO]; · iexact HO
    isplitl [Hb]; · iexact Hb
    isplitl [Hs]; · iexact Hs
    iexact HX
  rw [Prog.bind_lift]
  iintro ⟨Hc, HO, Hb, Hrows, Hsig, Hx, ⟨%g, Hs⟩, Hin, HX⟩
  iapply (wp_load 𝒱₀ (c : Thread nD τ) none Set.univ (m := xM) (Finset.subset_univ _)) $$ Hx; iintro Hx
  rw [read_x, Prog.bind_lift]
  iapply (wp_load 𝒱₀ (c : Thread nD τ) none Set.univ (m := sM) (Finset.subset_univ _)) $$ Hs; iintro Hs
  rw [Prog.bind_lift]
  iapply (wp_store 𝒱₀ (c : Thread nD τ) none Set.univ (m := sM) (r := rS) (Mk := Finset.univ) (Finset.subset_univ _)) $$ Hs; iintro Hs
  rw [write_s]
  ihave Hsend := (send_intro m ρ c) $$ [Hs Hrows Hin]
  · isplitl [Hs]; · iexact Hs
    isplitl [Hrows]; · iexact Hrows
    iexact Hin
  istop
  refine BI.Entails.trans (Q := iprop(ctx m ρ K ∗ ow c (OS c 1) ∗ phase (sendTodo m ρ c) (sendDone m ρ c) 1
    ∗ (bigSep Finset.univ (sigDone c f) ∗ atPos ER (kcell (c, bar)) 1 ∅ 0 ∗ xP c (xstg m ρ c) ∗ X))) ?_ ?_
  · show (_ : sProp 𝕄) ⊢ _
    iintro ⟨⟨⟨⟨⟨⟨Hc, HO⟩, Hb⟩, Hsig⟩, HX⟩, Hx⟩, Hsend⟩
    isplitl [Hc]; · iexact Hc
    isplitl [HO]; · iexact HO
    isplitl [Hsend]; · iexact Hsend
    isplitl [Hsig]; · iexact Hsig
    isplitl [Hb]; · iexact Hb
    isplitl [Hx]; · iexact Hx
    iexact HX
  refine send_step (n := 1) m ρ K c (1 : Fin 8) rfl ((show ∀ c : Dev nD, k0_cond1 c = 1#1 ↔ c < (1 : Fin 8) from by decide) c) (fun _ => rfl)
    (fun _ => row_eq c (k0_off2_eq c) _) (fun _ => snd_sem 1 rfl _) (fun _ => rcv_sem c (k0_off1_eq c) _) ?_
  refine send_step (n := 2) m ρ K c (2 : Fin 8) rfl ((show ∀ c : Dev nD, k0_cond2 c = 1#1 ↔ c < (2 : Fin 8) from by decide) c) (fun _ => rfl)
    (fun _ => row_eq c (k0_off4_eq c) _) (fun _ => snd_sem 2 rfl _) (fun _ => rcv_sem c (k0_off3_eq c) _) ?_
  refine send_step (n := 3) m ρ K c (3 : Fin 8) rfl ((show ∀ c : Dev nD, k0_cond3 c = 1#1 ↔ c < (3 : Fin 8) from by decide) c) (fun _ => rfl)
    (fun _ => row_eq c (k0_off6_eq c) _) (fun _ => snd_sem 3 rfl _) (fun _ => rcv_sem c (k0_off5_eq c) _) ?_
  refine send_step (n := 4) m ρ K c (4 : Fin 8) rfl ((show ∀ c : Dev nD, k0_cond4 c = 1#1 ↔ c < (4 : Fin 8) from by decide) c) (fun _ => rfl)
    (fun _ => row_eq c (k0_off8_eq c) _) (fun _ => snd_sem 4 rfl _) (fun _ => rcv_sem c (k0_off7_eq c) _) ?_
  refine send_step (n := 5) m ρ K c (5 : Fin 8) rfl ((show ∀ c : Dev nD, k0_cond5 c = 1#1 ↔ c < (5 : Fin 8) from by decide) c) (fun _ => rfl)
    (fun _ => row_eq c (k0_off10_eq c) _) (fun _ => snd_sem 5 rfl _) (fun _ => rcv_sem c (k0_off9_eq c) _) ?_
  refine send_step (n := 6) m ρ K c (6 : Fin 8) rfl ((show ∀ c : Dev nD, k0_cond6 c = 1#1 ↔ c < (6 : Fin 8) from by decide) c) (fun _ => rfl)
    (fun _ => row_eq c (k0_off12_eq c) _) (fun _ => snd_sem 6 rfl _) (fun _ => rcv_sem c (k0_off11_eq c) _) ?_
  exact hQ.trans fupd_intro

end Cert.KernelIdealProof

end
-- ==== Proof.KernelIdealReceive.lean ====
/-
# The receiving half of the body

The send to the last device, the receives, the sums, and the waits for the sends.
-/
module

public import proofs.«01_k».proof.Proof.KernelIdealBody

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 eq_ix2)

variable {F : FTy → Type} [FloatOps F]

local notation "𝕄" => MT nD τ sig Unit (Elt F) ℕ UU ℕ

variable (m : (ℓ : Loc nD τ sig) → Buf (Elt F) ℓ) (ρ : Dev nD → PrngReg) (K : Dev nD × Cl → ℕ)

theorem recv_last (c : Dev nD) (f : Buf (Elt F) ((c : Thread nD τ).loc cc0_scratch0)) :
    phase (recvTodo c f) (recvDone m ρ c f) 7 ⊢ bigSep Finset.univ (recvDone m ρ c f) := by
  rw [← phase_end (recvTodo c f) (recvDone m ρ c f)]
  refine phase_skip (n := 7) _ _ (7 : Fin 8) rfl ?_
  have h : ¬ (7 : Fin 8) < c := not_lt_of_ge (Fin.le_last c)
  unfold recvTodo recvDone
  rw [if_neg h, if_neg h]
  exact sep_mono_right (gath_ge m ρ c f 7 h)
theorem OR_last (c : Dev nD) : OR c 7 = 0 := by
  have h : ¬ (7 : Fin 8) < c := not_lt_of_ge (Fin.le_last c)
  rw [OR_step c (n := 7) 7 rfl, OR_end, show oAck c 7 = _ from if_neg h, add_zero]

/-- A device's places on its receive cells once all rows are in. -/
def rcvAts (c : Dev nD) : sProp 𝕄 := bigSep Finset.univ fun j : Fin 8 => atPos ER (kcell (c, rcv j)) (if j < c then 1 else 0) ∅ 0

theorem recv_split (c : Dev nD) (f : Buf (Elt F) ((c : Thread nD τ).loc cc0_scratch0)) :
    bigSep Finset.univ (recvDone m ρ c f) ⊢ iprop(rcvAts c ∗ gP c (gath m ρ c f)) := by
  rw [rows_eq]; unfold rcvAts
  exact split2 fun j => BI.Entails.refl _

set_option maxHeartbeats 2000000 in
/-- Part 3: the send to device 7, the running sums of the own block, and the receives from devices 0 to 6. -/
theorem part3 (c : Dev nD) (f : Buf (Elt F) ((c : Thread nD τ).loc cc0_scratch0)) {X : sProp 𝕄} {Q} (v2 : BitVec 32) (v21 : FVec F S512x512 .f32)
    (hQ : iprop(ctx m ρ K ∗ ow c 0 ∗ bigSep Finset.univ (recvDone m ρ c f) ∗ bigSep Finset.univ (sendDone m ρ c)
        ∗ oP c (k0_pay3 v21) ∗ atPos ER (kcell (c, bar)) 1 ∅ 0 ∗ xP c (xstg m ρ c) ∗ X) ⊢ Q (k0_pay4 v2)) :
    iprop(ctx m ρ K ∗ ow c (OS c 7) ∗ phase (sendTodo m ρ c) (sendDone m ρ c) 7
        ∗ (bigSep Finset.univ (sigDone c f) ∗ atPos ER (kcell (c, bar)) 1 ∅ 0 ∗ xP c (xstg m ρ c) ∗ (∃ g, oP c g) ∗ recvIn c ∗ X))
      ⊢ WP c (k0_part3 (F := F) xM (Memref.isWhole_whole _) oM (Memref.isWhole_whole _) gM (Memref.isWhole_whole _) sM (Memref.isWhole_whole _) cc0_scratch2 cc0_scratch3 cc0_scratch4
          c v2 v21) Q := by
  rw [k0_part3_eq_skeleton]; unfold k0_part3_skel
  refine send_step (n := 7) m ρ K c (7 : Fin 8) rfl ((show ∀ c : Dev nD, k0_cond7 c = 1#1 ↔ c < (7 : Fin 8) from by decide) c) (fun _ => rfl)
    (fun _ => row_eq c (k0_off14_eq c) _) (fun _ => snd_sem 7 rfl _) (fun _ => rcv_sem c (k0_off13_eq c) _) ?_
  rw [phase_end, OS_end, Prog.bind_lift]
  iintro ⟨Hc, HO, Hsend, Hsig, Hb, Hx, ⟨%g, Ho⟩, Hin, HX⟩
  iapply (wp_load 𝒱₀ (c : Thread nD τ) none Set.univ (m := oM) (Finset.subset_univ _)) $$ Ho; iintro Ho
  rw [Prog.bind_lift]
  iapply (wp_store 𝒱₀ (c : Thread nD τ) none Set.univ (m := oM) (r := rX) (Mk := Finset.univ) (Finset.subset_univ _)) $$ Ho; iintro Ho
  rw [write_o]
  ihave Hrecv := (recv_intro (F := F) c f) $$ [Hsig Hin]
  · isplitl [Hsig] <;> iassumption
  istop
  refine BI.Entails.trans (Q := iprop(ctx m ρ K ∗ ow c (OR c 0) ∗ phase (recvTodo c f) (recvDone m ρ c f) 0
    ∗ (bigSep Finset.univ (sendDone m ρ c) ∗ oP c (k0_pay3 v21) ∗ atPos ER (kcell (c, bar)) 1 ∅ 0 ∗ xP c (xstg m ρ c) ∗ X))) ?_ ?_
  · rw [phase_zero]
    show (_ : sProp 𝕄) ⊢ _
    iintro ⟨⟨⟨⟨⟨⟨⟨Hc, HO⟩, Hsend⟩, Hb⟩, Hx⟩, HX⟩, Ho⟩, Hrecv⟩
    isplitl [Hc]; · iexact Hc
    isplitl [HO]; · iexact HO
    isplitl [Hrecv]; · iexact Hrecv
    isplitl [Hsend]; · iexact Hsend
    isplitl [Ho]; · iexact Ho
    isplitl [Hb]; · iexact Hb
    isplitl [Hx]; · iexact Hx
    iexact HX
  refine recv_step (n := 0) m ρ K c f (0 : Fin 8) rfl ((show ∀ c : Dev nD, k0_cond8 c = 1#1 ↔ (0 : Fin 8) < c from by decide) c) ?_ ?_ ?_ ?_
  · exact fun _ => rfl
  · exact fun _ => N_row 0
  · exact fun _ => rcv_sem 0 rfl _
  refine recv_step (n := 1) m ρ K c f (1 : Fin 8) rfl ((show ∀ c : Dev nD, k0_cond9 c = 1#1 ↔ (1 : Fin 8) < c from by decide) c) ?_ ?_ ?_ ?_
  · exact fun _ => rfl
  · exact fun _ => N_row 1
  · exact fun _ => rcv_sem 1 rfl _
  refine recv_step (n := 2) m ρ K c f (2 : Fin 8) rfl ((show ∀ c : Dev nD, k0_cond10 c = 1#1 ↔ (2 : Fin 8) < c from by decide) c) ?_ ?_ ?_ ?_
  · exact fun _ => rfl
  · exact fun _ => N_row 2
  · exact fun _ => rcv_sem 2 rfl _
  refine recv_step (n := 3) m ρ K c f (3 : Fin 8) rfl ((show ∀ c : Dev nD, k0_cond11 c = 1#1 ↔ (3 : Fin 8) < c from by decide) c) ?_ ?_ ?_ ?_
  · exact fun _ => rfl
  · exact fun _ => N_row 3
  · exact fun _ => rcv_sem 3 rfl _
  refine recv_step (n := 4) m ρ K c f (4 : Fin 8) rfl ((show ∀ c : Dev nD, k0_cond12 c = 1#1 ↔ (4 : Fin 8) < c from by decide) c) ?_ ?_ ?_ ?_
  · exact fun _ => rfl
  · exact fun _ => N_row 4
  · exact fun _ => rcv_sem 4 rfl _
  refine recv_step (n := 5) m ρ K c f (5 : Fin 8) rfl ((show ∀ c : Dev nD, k0_cond13 c = 1#1 ↔ (5 : Fin 8) < c from by decide) c) ?_ ?_ ?_ ?_
  · exact fun _ => rfl
  · exact fun _ => N_row 5
  · exact fun _ => rcv_sem 5 rfl _
  refine recv_step (n := 6) m ρ K c f (6 : Fin 8) rfl ((show ∀ c : Dev nD, k0_cond14 c = 1#1 ↔ (6 : Fin 8) < c from by decide) c) ?_ ?_ ?_ ?_
  · exact fun _ => rfl
  · exact fun _ => N_row 6
  · exact fun _ => rcv_sem 6 rfl _
  rw [OR_last]
  refine BI.Entails.trans ?_ (hQ.trans fupd_intro)
  exact sep_mono_right (sep_mono_right (sep_mono_left (recv_last m ρ c f)))

/-- What device `c`'s result block holds when its communication buffer started as `f`. -/
def outF (c : Dev nD) (f : Buf (Elt F) ((c : Thread nD τ).loc cc0_scratch0)) : (cc0_stg1_0 : Ref sig .tc).ty.Contents (Elt F) :=
  k0_pay5 (k0_pay4 (vdev c)) (gath m ρ c f) (k0_pay3 (k0_pay1 (xstg m ρ c)))

set_option maxHeartbeats 2000000 in
/-- Part 4: the rows added to the running sums, and the waits for the sends to devices 1 to 6. -/
theorem part4 (c : Dev nD) (f : Buf (Elt F) ((c : Thread nD τ).loc cc0_scratch0)) {X : sProp 𝕄} {Q} (v2 : BitVec 32) (v80 : IVec S8x1 1)
    (a : FVec F S512x512 .f32)
    (hQ : ∀ v, iprop(ctx m ρ K ∗ ow c 0 ∗ (ackAt c 7 ∗ phase (finTodo m ρ c) (finDone m ρ c) 7)
        ∗ (rcvAts c ∗ gP c (gath m ρ c f) ∗ oP c (k0_pay5 v80 (gath m ρ c f) a) ∗ X)) ⊢ Q v) :
    iprop(ctx m ρ K ∗ ow c 0 ∗ bigSep Finset.univ (recvDone m ρ c f) ∗ bigSep Finset.univ (sendDone m ρ c)
        ∗ oP c a ∗ X ∗ finIn c ∗ atPos ER (kcell (c, ack)) 0 ∅ 0)
      ⊢ WP c (k0_part4 (F := F) xM (Memref.isWhole_whole _) oM (Memref.isWhole_whole _) gM (Memref.isWhole_whole _) sM (Memref.isWhole_whole _) cc0_scratch2 cc0_scratch3 cc0_scratch4
          c v2 v80) Q := by
  rw [k0_part4_eq_skeleton]; unfold k0_part4_skel
  rw [Prog.bind_lift]
  iintro ⟨Hc, HO, Hrecv, Hsend, Ho, HX, Hin, Hack⟩
  ihave Hrg := (recv_split m ρ c f) $$ Hrecv
  icases Hrg with ⟨Hats, Hg⟩
  ihave Hfin := (fin_intro m ρ c) $$ [Hsend Hin]
  · isplitl [Hsend] <;> iassumption
  ihave Hack := (ack_intro (F := F) c) $$ Hack
  iapply (wp_load 𝒱₀ (c : Thread nD τ) none Set.univ (m := gM) (Finset.subset_univ _)) $$ Hg; iintro Hg
  rw [read_g, Prog.bind_lift]
  iapply (wp_load 𝒱₀ (c : Thread nD τ) none Set.univ (m := oM) (Finset.subset_univ _)) $$ Ho; iintro Ho
  rw [read_o, Prog.bind_lift]
  iapply (wp_load 𝒱₀ (c : Thread nD τ) none Set.univ (m := oM) (Finset.subset_univ _)) $$ Ho; iintro Ho
  rw [Prog.bind_lift]
  iapply (wp_store 𝒱₀ (c : Thread nD τ) none Set.univ (m := oM) (r := rX) (Mk := Finset.univ) (Finset.subset_univ _)) $$ Ho; iintro Ho
  rw [write_o]
  istop
  refine BI.Entails.trans (Q := iprop(ctx m ρ K ∗ ow c 0 ∗ (ackAt c 1 ∗ phase (finTodo m ρ c) (finDone m ρ c) 1)
        ∗ (rcvAts c ∗ gP c (gath m ρ c f) ∗ oP c (k0_pay5 v80 (gath m ρ c f) a) ∗ X))) ?_ ?_
  · show (_ : sProp 𝕄) ⊢ _
    iintro ⟨⟨⟨⟨⟨⟨⟨Hc, HO⟩, HX⟩, Hats⟩, Hfin⟩, Hack⟩, Hg⟩, Ho⟩
    isplitl [Hc]; · iexact Hc
    isplitl [HO]; · iexact HO
    isplitl [Hack Hfin]
    · isplitl [Hack] <;> iassumption
    isplitl [Hats]; · iexact Hats
    isplitl [Hg]; · iexact Hg
    isplitl [Ho]; · iexact Ho
    iexact HX
  refine fin_step (n := 1) m ρ K c (1 : Fin 8) rfl ((show ∀ c : Dev nD, k0_cond15 c = 1#1 ↔ c < (1 : Fin 8) from by decide) c) ?_ ?_ ?_
  · exact fun _ => rfl
  · exact fun _ => snd_sem 1 rfl _
  refine fin_step (n := 2) m ρ K c (2 : Fin 8) rfl ((show ∀ c : Dev nD, k0_cond16 c = 1#1 ↔ c < (2 : Fin 8) from by decide) c) ?_ ?_ ?_
  · exact fun _ => rfl
  · exact fun _ => snd_sem 2 rfl _
  refine fin_step (n := 3) m ρ K c (3 : Fin 8) rfl ((show ∀ c : Dev nD, k0_cond17 c = 1#1 ↔ c < (3 : Fin 8) from by decide) c) ?_ ?_ ?_
  · exact fun _ => rfl
  · exact fun _ => snd_sem 3 rfl _
  refine fin_step (n := 4) m ρ K c (4 : Fin 8) rfl ((show ∀ c : Dev nD, k0_cond18 c = 1#1 ↔ c < (4 : Fin 8) from by decide) c) ?_ ?_ ?_
  · exact fun _ => rfl
  · exact fun _ => snd_sem 4 rfl _
  refine fin_step (n := 5) m ρ K c (5 : Fin 8) rfl ((show ∀ c : Dev nD, k0_cond19 c = 1#1 ↔ c < (5 : Fin 8) from by decide) c) ?_ ?_ ?_
  · exact fun _ => rfl
  · exact fun _ => snd_sem 5 rfl _
  refine fin_step (n := 6) m ρ K c (6 : Fin 8) rfl ((show ∀ c : Dev nD, k0_cond20 c = 1#1 ↔ c < (6 : Fin 8) from by decide) c) ?_ ?_ ?_
  · exact fun _ => rfl
  · exact fun _ => snd_sem 6 rfl _
  exact (hQ _).trans fupd_intro

end Cert.KernelIdealProof

end
-- ==== Proof.KernelIdealFinish.lean ====
/-
# The whole body on one device

The result does not depend on what the communication buffer held before; every cell of the exchange closes; and the
body from what the launch deals a device to its result.
-/
module

public import proofs.«01_k».proof.Proof.KernelIdealReceive
public import Idealize.ShloMosaic.Lib.Pipeline.Value

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 eq_ix2)

variable {F : FTy → Type} [FloatOps F]

local notation "𝕄" => MT nD τ sig Unit (Elt F) ℕ UU ℕ

variable (m : (ℓ : Loc nD τ sig) → Buf (Elt F) ℓ) (ρ : Dev nD → PrngReg) (K : Dev nD × Cl → ℕ)

/-! ## The result block -/

/-- The mask of the rows: set below the device's own number, clear from there on. -/
theorem mask_at (c : Dev nD) (i : S8x512.Idx) :
    (broadcastTo S8x512 (shapeCast S8x1 (k0_pay4 (vdev c)) shapeCasts_S8x1_S8x1) broadcasts_S8x1_S8x512 : IVec S8x512 1) i
      = if (i (0 : Fin 2) : Fin 8) < c then 1#1 else 0#1 := by
  rw [shapeCast_self]
  refine (broadcastTo_apply (k0_pay4 (vdev c)) broadcasts_S8x1_S8x512 i (ix2 (i (0 : Fin 2)) (0 : Fin 1)) (fun a => by fin_cases a <;> rfl)).trans ?_
  show IntOp.cmpi .slt (BitVec.ofNat 32 (0 * 8 + (i (0 : Fin 2)).val)) (vdev c) = _
  exact (show ∀ (c j : Fin 8), IntOp.cmpi .slt (BitVec.ofNat 32 (0 * 8 + j.val)) (vdev c) = if j < c then 1#1 else 0#1 from by decide) c (i (0 : Fin 2))

omit [FloatOps F] in
/-- Two buffers that agree below the device's own row are the same under the mask. -/
theorem masked_eq (c : Dev nD) (g g' z : (cc0_scratch0 : Ref sig .tc).ty.Contents (Elt F))
    (h : ∀ i : S8x512.Idx, (i (0 : Fin 2) : Fin 8) < c → g i = g' i) :
    select (broadcastTo S8x512 (shapeCast S8x1 (k0_pay4 (vdev c)) shapeCasts_S8x1_S8x1) broadcasts_S8x1_S8x512 : IVec S8x512 1) g z
      = select (broadcastTo S8x512 (shapeCast S8x1 (k0_pay4 (vdev c)) shapeCasts_S8x1_S8x1) broadcasts_S8x1_S8x512 : IVec S8x512 1) g' z := by
  funext i
  rw [ValueIdx.select_apply, ValueIdx.select_apply, mask_at]
  by_cases hi : (i (0 : Fin 2) : Fin 8) < c
  · rw [h i hi]
  · rw [if_neg hi]; rfl

/-- Device `c`'s result block: the running sums of its block, each with the column sums of the blocks below added. -/
def outAt (c : Dev nD) : (cc0_stg1_0 : Ref sig .tc).ty.Contents (Elt F) :=
  k0_pay5 (k0_pay4 (vdev c)) (bsAll m ρ) (k0_pay3 (k0_pay1 (xstg m ρ c)))

/-- Whatever the communication buffer held at first, the result is that. -/
theorem out_eq (c : Dev nD) (f : Buf (Elt F) ((c : Thread nD τ).loc cc0_scratch0)) (a : FVec F S512x512 .f32) :
    k0_pay5 (k0_pay4 (vdev c)) (gath m ρ c f) a = k0_pay5 (k0_pay4 (vdev c)) (bsAll m ρ) a := by
  unfold k0_pay5
  dsimp only
  rw [masked_eq c (gath m ρ c f) (bsAll m ρ) _ fun i hi => if_pos hi]

/-! ## Closing the cells -/

/-- The round a device's cell has reached at the end: a cell that is used has its one round behind it. -/
def endR (c : Dev nD) : Cl → ℕ
  | .inl _ => 1
  | .inr (.inl _) => if c.val = 7 then 0 else 1
  | .inr (.inr (.inl k)) => if c < k then 1 else 0
  | .inr (.inr (.inr j)) => if j < c then 1 else 0

theorem no_duty (c : Dev nD) (x : Cl) (h : endR c x = 0) : dutiesOf c x = ∅ := by
  rcases x with ⟨⟩ | ⟨⟩ | k | j
  · exact absurd h Nat.one_ne_zero
  · have h7 : c.val = 7 := by
      by_contra h'
      have : (if c.val = 7 then 0 else 1) = 0 := h
      rw [if_neg h'] at this; exact Nat.one_ne_zero this
    exact Finset.filter_eq_empty_iff.mpr fun k _ hk => by
      have h1 : c.val < k.val := hk
      have := k.isLt; omega
  · refine if_neg fun h' => ?_
    have : (if c < k then 1 else 0) = 0 := h
    rw [if_pos h'] at this; exact Nat.one_ne_zero this
  · refine if_neg fun h' => ?_
    have : (if j < c then 1 else 0) = 0 := h
    rw [if_pos h'] at this; exact Nat.one_ne_zero this

theorem end_duties (c : Dev nD) (x : Cl) (r : ℕ) (hr : endR c x ≤ r) : (Rd (F := F) m ρ).duties (kcell (c, x)) r = ∅ := by
  rcases Nat.eq_zero_or_pos r with h0 | h1
  · subst h0
    rw [duties_at]; exact no_duty c x (Nat.le_zero.mp hr)
  · exact duties_later m ρ _ r h1

omit [FloatOps F] in
/-- Something that lasts may be used at every item of a family. -/
theorem bigSep_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- All places of device `c` at the end. -/
def ends (c : Dev nD) : sProp 𝕄 := bigSep Finset.univ fun x : Cl => atPos ER (kcell (c, x)) (endR c x) ∅ 0
/-- All of its counters at zero. -/
def zeros (c : Dev nD) : sProp 𝕄 := bigSep Finset.univ fun x : Cl => semVal (kcell (c, x)) 0

theorem close_one (c : Dev nD) (x : Cl) :
    iprop(ctx m ρ K ∗ atPos ER (kcell (c, x)) (endR c x) ∅ 0) ⊢ |={Set.univ}=> semVal (kcell (c, x)) 0 := by
  iintro ⟨Hc, Hat⟩
  iapply (Rounds.cell_close ER (Rd m ρ) (Set.mem_univ (K (c, x))) (fun h => h) (R := endR c x) (end_duties m ρ c x))
  isplitl [Hc]
  · iapply (ctx_inv m ρ K (c, x)); iexact Hc
  iexact Hat

theorem close_all (c : Dev nD) : iprop(ctx m ρ K ∗ ends c) ⊢ |={Set.univ}=> zeros c := by
  unfold ends zeros
  exact (bigSep_with fun x _ => close_one m ρ K c x).trans (bigSep_fupd _ _)

omit [FloatOps F] in
/-- A family over a device's cells, one kind of cell after the other. -/
theorem bigSep_cl (Φ : Cl → sProp 𝕄) : bigSep Finset.univ Φ
    = iprop(Φ bar ∗ Φ ack ∗ (bigSep Finset.univ fun k : Fin 8 => Φ (snd k)) ∗ bigSep Finset.univ fun j : Fin 8 => Φ (rcv j)) := by
  rw [bigSep_univ_sum, bigSep_univ_sum, bigSep_univ_sum, bigSep_univ_of_subsingleton (), bigSep_univ_of_subsingleton ()]
  rfl

theorem fin_split (c : Dev nD) : bigSep Finset.univ (finDone m ρ c)
    ⊢ iprop((bigSep Finset.univ fun k : Fin 8 => atPos ER (kcell (c, snd k)) (if c < k then 1 else 0) ∅ 0) ∗ sP c (bs m ρ c)) := by
  rw [shares_eq]
  exact split2 fun k => BI.Entails.refl _

omit [FloatOps F] in
theorem ackAt_end (c : Dev nD) : (ackAt c 8 : sProp 𝕄) ⊢ atPos ER (kcell (c, ack)) (if c.val = 7 then 0 else 1) ∅ 0 := by
  unfold ackAt
  by_cases h : c.val = 7
  · rw [if_pos h, if_pos h]
  · rw [if_neg h, if_neg h, if_neg (by decide)]

omit [FloatOps F] in
theorem ends_intro (c : Dev nD) :
    iprop(atPos ER (kcell (c, bar)) 1 ∅ 0 ∗ ackAt c 8 ∗ (bigSep Finset.univ fun k : Fin 8 => atPos ER (kcell (c, snd k)) (if c < k then 1 else 0) ∅ 0) ∗ rcvAts c)
      ⊢ (ends c : sProp 𝕄) := by
  unfold ends; rw [bigSep_cl]
  exact sep_mono_right (sep_mono_left (ackAt_end c))

/-! ## The body -/

theorem WP_bind (c : Dev nD) {α β : Type} {p : Prog (TpuEff nD τ sig (Elt F) Λ₀ .tc) α} {k : α → Prog (TpuEff nD τ sig (Elt F) Λ₀ .tc) β}
    {Q : β → sProp 𝕄} {P : sProp 𝕄} (h : P ⊢ WP c p fun a => WP c (k a) Q) : P ⊢ WP c (p >>= k) Q := by
  unfold WP; rw [wp_bind]; exact h

/-- What a device has when its body starts, besides the context. -/
def bodyIn (c : Dev nD) : sProp 𝕄 :=
  iprop(sigIn c ∗ (cred (tallyAt (kcell (c, bar)) () 8) ∗ atPos ER (kcell (c, bar)) 0 ∅ 0) ∗ sendIn c ∗ recvIn c ∗ finIn c
    ∗ atPos ER (kcell (c, ack)) 0 ∅ 0)
/-- What it has of the exchange when the body ends: the two scratch buffers, and all counters at zero. -/
def bodyOut (c : Dev nD) : sProp 𝕄 := iprop((∃ f, gP c f) ∗ (∃ f, sP c f) ∗ zeros c)

theorem body_end (c : Dev nD) (f : Buf (Elt F) ((c : Thread nD τ).loc cc0_scratch0)) (g : Buf (Elt F) ((c : Thread nD τ).loc cc0_stg1_0)) :
    iprop(ctx m ρ K ∗ ow c 0 ∗ (ackAt c 8 ∗ phase (finTodo m ρ c) (finDone m ρ c) 8)
        ∗ (rcvAts c ∗ gP c (gath m ρ c f) ∗ oP c g ∗ atPos ER (kcell (c, bar)) 1 ∅ 0 ∗ xP c (xstg m ρ c)))
      ⊢ |={Set.univ}=> iprop(bodyOut c ∗ ow c 0 ∗ xP c (xstg m ρ c) ∗ oP c g) := by
  rw [phase_end]
  iintro ⟨Hc, HO, ⟨Hack, Hfin⟩, Hrcv, Hg, Ho, Hb, Hx⟩
  ihave Hf := (fin_split m ρ c) $$ Hfin
  icases Hf with ⟨Hsnd, Hs⟩
  ihave He := (ends_intro (F := F) c) $$ [Hb Hack Hsnd Hrcv]
  · isplitl [Hb]; · iexact Hb
    isplitl [Hack]; · iexact Hack
    isplitl [Hsnd]; · iexact Hsnd
    iexact Hrcv
  imod (close_all m ρ K c) $$ [Hc He] with Hz
  · isplitl [Hc] <;> iassumption
  imodintro
  unfold bodyOut
  isplitl [Hg Hs Hz]
  · isplitl [Hg]; · iexists _; iexact Hg
    isplitl [Hs]; · iexists _; iexact Hs
    iexact Hz
  isplitl [HO]; · iexact HO
  isplitl [Hx]; · iexact Hx
  iexact Ho

set_option maxHeartbeats 2000000 in
/-- The body on device `c` ends with its result block in place, its argument as it was, nothing owed and all
    counters at zero. -/
theorem body_wp (c : Dev nD) (f : Buf (Elt F) ((c : Thread nD τ).loc cc0_scratch0)) :
    iprop(ctx m ρ K ∗ ow c (OB c 0) ∗ bodyIn c ∗ gP c f ∗ (∃ f, sP c f) ∗ xP c (xstg m ρ c) ∗ (∃ g, oP c g))
      ⊢ WP c (cc0_body (F := F) xM (Memref.isWhole_whole _) oM (Memref.isWhole_whole _) gM (Memref.isWhole_whole _) sM (Memref.isWhole_whole _)
          cc0_scratch2 cc0_scratch3 cc0_scratch4)
        fun _ => iprop(bodyOut c ∗ ow c 0 ∗ xP c (xstg m ρ c) ∗ oP c (outAt m ρ c)) := by
  rw [cc0_body_eq_skeleton]; unfold cc0_body_skel
  refine BI.Entails.trans (Q := iprop(ctx m ρ K ∗ ow c (OB c 0) ∗ phase (sigTodo c f) (sigDone c f) 0
    ∗ ((cred (tallyAt (kcell (c, bar)) () 8) ∗ atPos ER (kcell (c, bar)) 0 ∅ 0) ∗ xP c (xstg m ρ c) ∗ (∃ g, sP c g) ∗ sendIn c
      ∗ (∃ g, oP c g) ∗ recvIn c ∗ finIn c ∗ atPos ER (kcell (c, ack)) 0 ∅ 0))) ?_ ?_
  · show (_ : sProp 𝕄) ⊢ _
    unfold bodyIn
    iintro ⟨Hc, HO, ⟨Hsig, Hb, Hsend, Hrecv, Hfin, Hack⟩, Hg, Hs, Hx, Ho⟩
    isplitl [Hc]; · iexact Hc
    isplitl [HO]; · iexact HO
    isplitl [Hsig Hg]
    · iapply (sig_intro (F := F) c f)
      isplitl [Hsig] <;> iassumption
    isplitl [Hb]; · iexact Hb
    isplitl [Hx]; · iexact Hx
    isplitl [Hs]; · iexact Hs
    isplitl [Hsend]; · iexact Hsend
    isplitl [Ho]; · iexact Ho
    isplitl [Hrecv]; · iexact Hrecv
    isplitl [Hfin]; · iexact Hfin
    iexact Hack
  refine WP_bind c (part1 m ρ K c f _ rfl ?_)
  refine WP_bind c (part2 m ρ K c f _ ?_)
  refine WP_bind c (part3 m ρ K c f _ _ ?_)
  refine WP_bind c (BI.Entails.trans ?_ (part4 m ρ K c f (X := iprop(atPos ER (kcell (c, bar)) 1 ∅ 0 ∗ xP c (xstg m ρ c))) _ _ (k0_pay3 (k0_pay1 (xstg m ρ c))) fun v => ?_))
  · exact sep_mono_right (sep_mono_right (sep_mono_right (sep_mono_right (sep_mono_right (sep_assoc (PROP := sProp 𝕄)).2))))
  refine fin_step (n := 7) m ρ K c (7 : Fin 8) rfl ((show ∀ c : Dev nD, k0_cond21 c = 1#1 ↔ c < (7 : Fin 8) from by decide) c) ?_ ?_ ?_
  · exact fun _ => rfl
  · exact fun _ => snd_sem 7 rfl _
  rw [out_eq]
  exact body_end m ρ K c f _

end Cert.KernelIdealProof

end
-- ==== Proof.KernelIdealRun.lean ====
/-
# The launch of the exchange on all eight devices

The ghost state of the exchange is created once for the whole mesh, each device is dealt the duties it pays and the
credits of what it waits for, and the run of the whole program follows from the body on each device.
-/
module

public import proofs.«01_k».proof.Proof.KernelIdealFinish
public import Idealize.ShloMosaic.Lib.Pipeline.CollectiveSegs

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What the pipeline carries -/

/-- A device at the start of its body: the shared context under some names, and its own part. -/
def start (c : Dev nD) : sProp 𝕄 := iprop(∃ K, ctx m ρ K ∗ bodyIn c)

def Φ₀ (c : Dev nD) : sProp 𝕄 := iprop(start m ρ c ∗ (∃ f, gP c f) ∗ ∃ f, sP c f)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => bodyOut c
  q _ := fullShare
  owed t := match t with
    | ⟨0, _⟩ => OB c 0
    | ⟨_ + 1, _⟩ => 0

theorem fetch_0 (t : Fin cfg0.N) : (cfg0.win (0 : Fin 2)).fetch t = true := by rw [fin_N0 t]; rfl

omit [FloatOps F] in
/-- Owning a whole buffer at contents `X` is its points-to. -/
theorem owns_whole (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

def bodyPre (c : Dev nD) : sProp 𝕄 :=
  iprop(Φ₀ m ρ c ∗ (dats m ρ 0 c).owesAt () t0_0.castSucc
    ∗ (∃ d, ∃ g : Buf (Elt F) ((c : Thread nD τ).loc cc0_stg0_0), ⌜g = (dats m ρ 0 c).before (0 : Fin 2) t0_0 d⌝ ∗ xP c g)
    ∗ (∃ d, ∃ g : Buf (Elt F) ((c : Thread nD τ).loc cc0_stg1_0), ⌜g = (dats m ρ 0 c).before (1 : Fin 2) t0_0 d⌝ ∗ oP c g))

def bodyPost (c : Dev nD) : sProp 𝕄 :=
  iprop(bodyOut c ∗ (dats m ρ 0 c).owesAt () t0_0.succ
    ∗ (∃ g : Buf (Elt F) ((c : Thread nD τ).loc cc0_stg0_0), ⌜g = xstg m ρ c⌝ ∗ xP c g)
    ∗ (∃ g : Buf (Elt F) ((c : Thread nD τ).loc cc0_stg1_0), ⌜g = outAt m ρ c⌝ ∗ oP c g))

/-- The body's precondition as the pipeline states it gives the one of `body_wp`. -/
theorem pre_body (c : Dev nD) : bodyPre m ρ c ⊢ iprop(∃ K, ∃ f, ctx m ρ K ∗ ow c (OB c 0) ∗ bodyIn c ∗ gP c f ∗ (∃ f, sP c f)
    ∗ xP c (xstg m ρ c) ∗ (∃ g, oP c g)) := by
  unfold bodyPre Φ₀ start ow
  unfold Dat.owesAt Pipeline.owesWithin
  iintro ⟨⟨⟨%K, Hc, Hb⟩, ⟨%f, Hg⟩, Hs⟩, ⟨%W, %hW, HO⟩, ⟨%d0, %g0, %hg0, Hx⟩, ⟨%d1, %g1, %hg1, Hout⟩⟩
  have hx : g0 = xstg m ρ c := by rw [hg0]; unfold Dat.before; rw [if_pos (fetch_0 t0_0)]; rfl
  subst hx
  iexists K; iexists f
  isplitl [Hc]; · iexact Hc
  isplitl [HO]; · iexists W; iexact HO
  isplitl [Hb]; · iexact Hb
  isplitl [Hg]; · iexact Hg
  isplitl [Hs]; · iexact Hs
  isplitl [Hx]; · iexact Hx
  iexists g1; iexact Hout

theorem post_body (c : Dev nD) : iprop(bodyOut c ∗ ow c 0 ∗ xP c (xstg m ρ c) ∗ oP c (outAt m ρ c)) ⊢ bodyPost m ρ c := by
  unfold bodyPost ow
  unfold Dat.owesAt Pipeline.owesWithin
  iintro ⟨Hb, ⟨%W, HO⟩, Hx, Ho⟩
  isplitl [Hb]; · iexact Hb
  isplitl [HO]
  · iexists W
    isplitr; · ipureintro; exact fun _ _ => Or.inl trivial
    iexact HO
  isplitl [Hx]
  · iexists (xstg m ρ c); isplitr; · ipureintro; rfl
    iexact Hx
  · iexists (outAt m ρ c); isplitr; · ipureintro; rfl
    iexact Ho

theorem body_run (c : Dev nD) : bodyPre m ρ c ⊢ WP c (cc0_body (F := F) xM (Memref.isWhole_whole _) oM (Memref.isWhole_whole _)
      gM (Memref.isWhole_whole _) sM (Memref.isWhole_whole _) cc0_scratch2 cc0_scratch3 cc0_scratch4) fun _ => bodyPost m ρ c := by
  refine (pre_body m ρ c).trans ?_
  show (_ : sProp 𝕄) ⊢ _
  iintro ⟨%K, %f, H⟩
  iapply ((body_wp m ρ K c f).trans (wp_mono _ _ _ fun _ => post_body m ρ c))
  iexact H

set_option maxRecDepth 4000 in
/-- The library's obligation for the body on device `c`. -/
theorem body_obligation (c : Dev nD) : BodyObligation (dats (F := F) m ρ 0 c) (defs₀ (F := F)) 𝒱₀ () Set.univ := fun t => by
  rw [fin_N0 t]
  rw [show (bigSep Finset.univ : (Fin cfg0.W → sProp 𝕄) → sProp 𝕄) = fun Φ => iprop(Φ (0 : Fin 2) ∗ Φ (1 : Fin 2)) from
    funext fun Φ => bigSep_W0 Φ]
  simp only [owns_whole]
  exact body_run m ρ c

/-! ## The ghost state at launch -/

theorem ownSemFacts : Pipeline.OwnSemFacts cfg0.spec osem := by decide

theorem share_eq (c : Dev nD) (w : Fin cfg0.W) : (dats m ρ 0 c).share w = fullShare := by unfold Dat.share; split <;> rfl

def exCells : Finset (GSem nD τ sig) := Finset.univ.map ⟨kcell, fun _ _ h => kcell_inj h⟩

/-- A token for each cell and each duty name. -/
def tokOf (p : (Dev nD × Cl) × Fin 8) : GSem nD τ sig × ℕ × Fin 8 := (kcell p.1, 0, p.2)
theorem tokOf_inj : Function.Injective tokOf := by
  rintro ⟨a, d⟩ ⟨b, e⟩ h
  have h1 : a = b := kcell_inj (congrArg Prod.fst h)
  have h2 : d = e := congrArg (fun x : GSem nD τ sig × ℕ × Fin 8 => x.2.2) h
  rw [h1, h2]
def exToks : Finset (GSem nD τ sig × ℕ × Fin 8) := Finset.univ.map ⟨tokOf, tokOf_inj⟩

def u₀ : UU :=
  (initOf (Pipeline.cells cfgs cellOf_inj) (Pipeline.launchToks cfgs cellOf_inj), initOf exCells exToks)

/-- The tokens of device `c`'s own cells. -/
def toks (c : Dev nD) : sProp 𝕄 :=
  bigSep Finset.univ fun x : Cl => bigSep Finset.univ fun d : Fin 8 => dutyTok ER (kcell (c, x)) 0 d

def G (c : Dev nD) : sProp 𝕄 :=
  iprop((bigSep Finset.univ fun x : Cl => roundState ER (Rd m ρ) (kcell (c, x)) 0)
    ∗ (bigSep Finset.univ fun x : Cl => atPos ER (kcell (c, x)) 0 ∅ 0)
    ∗ (bigSep Finset.univ fun x : Cl => reached ER (kcell (c, x)) 0) ∗ toks c)

/-- All cells' invariants under the names `K`, and that each is at round 0. -/
def records (K : Dev nD × Cl → ℕ) : sProp 𝕄 :=
  iprop((bigSep Finset.univ fun ck : Dev nD × Cl => cellInv ER (Rd m ρ) (K ck) (kcell ck))
    ∗ bigSep Finset.univ fun ck : Dev nD × Cl => reached ER (kcell ck) 0)

instance records_persistent (K : Dev nD × Cl → ℕ) : BI.Persistent (records m ρ K) := by unfold records; infer_instance

/-- The tokens of the duties that device `c` pays. -/
def pays (c : Dev nD) : sProp 𝕄 :=
  iprop(sigIn c ∗ (bigSep Finset.univ fun j : Fin 8 => dutyTok ER (kcell (j, ack)) 0 c)
    ∗ (bigSep Finset.univ fun k : Fin 8 => dutyTok ER (kcell (c, snd k)) 0 0)
    ∗ bigSep Finset.univ fun k : Fin 8 => dutyTok ER (kcell (k, rcv c)) 0 0)

def G' (c : Dev nD) : sProp 𝕄 :=
  iprop(∃ K, records m ρ K ∗ (bigSep Finset.univ fun x : Cl => atPos ER (kcell (c, x)) 0 ∅ 0) ∗ pays c)

omit [FloatOps F] in
theorem over_cells (Φ : GSem nD τ sig → sProp 𝕄) :
    bigSep exCells Φ = bigSep Finset.univ fun c : Dev nD => bigSep Finset.univ fun x : Cl => Φ (kcell (c, x)) := by
  unfold exCells; rw [bigSep_map, bigSep_univ_prod]; rfl
omit [FloatOps F] in
theorem over_toks :
    bigSep exToks (fun x => (dutyTok ER x.1 x.2.1 x.2.2 : sProp 𝕄)) = bigSep Finset.univ fun c : Dev nD => toks c := by
  unfold exToks; rw [bigSep_map, bigSep_univ_prod, bigSep_univ_prod]; rfl

theorem fund_all : BI.own (ER (initOf exCells exToks)) ⊢ (|==> bigSep Finset.univ (G m ρ) : sProp 𝕄) := by
  refine (Rounds.fund ER (Rd m ρ) exCells exToks).trans (BI.bupd_mono ?_)
  rw [over_cells, over_cells, over_cells, over_toks]
  unfold G; rw [bigSep_sep', bigSep_sep', bigSep_sep']
  show (_ : sProp 𝕄) ⊢ _
  iintro ⟨H1, H2, H3, H4⟩
  isplitl [H1]; · iexact H1
  isplitl [H3]; · iexact H3
  isplitl [H2]; · iexact H2
  iexact H4

omit [FloatOps F] in
/-- The barrier semaphore is the one semaphore outside the launch's scope. -/
theorem unscoped_eq (c : Dev nD) : (unscopedSems0 c : sProp 𝕄) = semVal (kcell (c, bar)) 0 := by
  unfold unscopedSems0; rw [bigSep_eq_bigSepL_of_eq [SemLoc.reg barS] (by decide) (by decide)]; rfl

omit [FloatOps F] in
theorem zeros_eq (c : Dev nD) : (zeros c : sProp 𝕄)
    = iprop(unscopedSems0 c ∗ Pipeline.ownSems0 (Ix := Unit) (Name := ℕ) (U := UU) (Lvl := ℕ) (Val := Elt F) (τ := τ) osem c) := by
  unfold zeros
  rw [BI.bigSep_univ_sum, unscoped_eq,
    show (Finset.univ : Finset Unit) = {()} from rfl, BI.bigSep_singleton]
  rfl

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun x : Cl => iprop(∃ κ : ℕ, cellInv ER (Rd m ρ) κ (kcell (c, x))))
          ∗ (bigSep Finset.univ fun x : Cl => atPos ER (kcell (c, x)) 0 ∅ 0)
          ∗ (bigSep Finset.univ fun x : Cl => reached ER (kcell (c, x)) 0) ∗ toks c) := by
  unfold G
  iintro ⟨Hos, Hus, Hst, Hrest⟩
  ihave Hv := (Entails.of_eq (zeros_eq (F := F) c).symm) $$ [Hos Hus]
  · isplitl [Hus] <;> iassumption
  imod (show iprop(zeros c ∗ bigSep Finset.univ fun x : Cl => roundState ER (Rd m ρ) (kcell (c, x)) 0)
      ⊢ (|={Set.univ}=> bigSep Finset.univ fun x : Cl => iprop(∃ κ : ℕ, cellInv ER (Rd m ρ) κ (kcell (c, x))) : sProp 𝕄) from by
        unfold zeros; rw [← bigSep_sep']
        exact (bigSep_mono fun x _ => (Rounds.body_intro ER (Rd m ρ) (kcell (c, x))).trans inv_alloc).trans (bigSep_fupd _ _)) $$ [Hv Hst] with Hinv
  · isplitl [Hv] <;> iassumption
  imodintro
  isplitl [Hinv]; · iexact Hinv
  iexact Hrest

omit [FloatOps F] in
/-- Of a device's own tokens, those that some device pays. -/
theorem toks_split (c : Dev nD) : (toks c : sProp 𝕄) ⊢ iprop((bigSep Finset.univ fun d : Fin 8 => dutyTok ER (kcell (c, bar)) 0 d)
    ∗ (bigSep Finset.univ fun d : Fin 8 => dutyTok ER (kcell (c, ack)) 0 d)
    ∗ (bigSep Finset.univ fun k : Fin 8 => dutyTok ER (kcell (c, snd k)) 0 0)
    ∗ bigSep Finset.univ fun j : Fin 8 => dutyTok ER (kcell (c, rcv j)) 0 0) := by
  unfold toks; rw [bigSep_cl]
  exact sep_mono_right (sep_mono_right (BI.sep_mono (bigSep_mono fun k _ => bigSep_elim (Finset.mem_univ (0 : Fin 8)))
    (bigSep_mono fun j _ => bigSep_elim (Finset.mem_univ (0 : Fin 8)))))

omit [FloatOps F] in
/-- Each token goes to the device that pays its duty. -/
theorem deal : (bigSep Finset.univ fun c : Dev nD => (toks c : sProp 𝕄)) ⊢ bigSep Finset.univ fun c : Dev nD => pays c := by
  refine (bigSep_mono fun c _ => toks_split c).trans ?_
  unfold pays sigIn
  rw [bigSep_sep', bigSep_sep', bigSep_sep', bigSep_sep', bigSep_sep', bigSep_sep',
    Pipeline.bigSep_univ_comm (fun (c : Dev nD) (d : Fin 8) => (dutyTok ER (kcell (c, bar)) 0 d : sProp 𝕄)),
    Pipeline.bigSep_univ_comm (fun (c : Dev nD) (d : Fin 8) => (dutyTok ER (kcell (c, ack)) 0 d : sProp 𝕄)),
    Pipeline.bigSep_univ_comm (fun (c : Dev nD) (j : Fin 8) => (dutyTok ER (kcell (c, rcv j)) 0 0 : sProp 𝕄))]
  exact BI.Entails.refl _

theorem regroup :
    (bigSep Finset.univ fun c : Dev nD => iprop((bigSep Finset.univ fun x : Cl => iprop(∃ κ : ℕ, cellInv ER (Rd m ρ) κ (kcell (c, x))))
          ∗ (bigSep Finset.univ fun x : Cl => atPos ER (kcell (c, x)) 0 ∅ 0)
          ∗ (bigSep Finset.univ fun x : Cl => reached ER (kcell (c, x)) 0) ∗ toks c) : sProp 𝕄)
      ⊢ bigSep Finset.univ (G' m ρ) := by
  rw [bigSep_sep', bigSep_sep', bigSep_sep', ← bigSep_univ_prod (fun ck : Dev nD × Cl => iprop(∃ κ : ℕ, cellInv ER (Rd m ρ) κ (kcell ck))),
    ← bigSep_univ_prod (fun ck : Dev nD × Cl => (reached ER (kcell ck) 0 : sProp 𝕄))]
  iintro ⟨HI, Hat, #HR, Htok⟩
  ihave HK := (BI.bigSep_exists_pi Finset.univ (fun (ck : Dev nD × Cl) (κ : ℕ) => (cellInv ER (Rd m ρ) κ (kcell ck) : sProp 𝕄))) $$ HI
  icases HK with ⟨%K, #HI⟩
  ihave Hp := (deal (F := F)) $$ Htok
  iapply (bigSep_with (R := records m ρ K)
    (Φ := fun c : Dev nD => iprop((bigSep Finset.univ fun x : Cl => atPos ER (kcell (c, x)) 0 ∅ 0) ∗ pays c))
    fun c _ => show _ ⊢ G' m ρ c from by unfold G'; iintro H; iexists K; iexact H)
  isplitr
  · unfold records; isplitl; · iexact HI
    iexact HR
  · iapply (Entails.of_eq (bigSep_sep' Finset.univ (fun c : Dev nD => bigSep Finset.univ fun x : Cl => (atPos ER (kcell (c, x)) 0 ∅ 0 : sProp 𝕄)) pays).symm)
    isplitl [Hat]; · iexact Hat
    iexact Hp

/-- The step over the whole mesh: from all semaphores at zero and the fresh ghost state to each device's share. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The credits at launch -/

/-- What all devices together owe device `c`. -/
def dueTo (c : Dev nD) : Tally :=
  tallyAt (kcell (c, bar)) () 8 + ((∑ k : Fin 8, oAck k c) + ∑ j : Fin 8, oRcv j c)

theorem tail_all (f : Fin 8 → Tally) : tail f 0 = ∑ k, f k := Finset.sum_congr rfl fun k _ => if_pos (Nat.zero_le _)
theorem tail_rcv (c : Dev nD) : tail (oRcv c) 1 = ∑ k, oRcv c k := by
  rw [← tail_all, tail_step (oRcv c) (n := 0) (0 : Fin 8) rfl, show oRcv c 0 = 0 from if_neg (Nat.not_lt_zero _), add_zero]
theorem eight (g : GSem nD τ sig) : (∑ _d : Fin 8, (tallyAt g () 1 : Tally)) = tallyAt g () 8 := by
  simp only [Fin.sum_univ_eight, tallyAt_add]

theorem owed_sum : (∑ d : Dev nD, OB d 0) = ∑ d : Dev nD, dueTo d := by
  unfold OB OS dueTo
  simp only [tail_all, tail_rcv, Finset.sum_add_distrib, ← eight]
  rw [show (∑ d : Dev nD, ∑ k : Fin 8, oAck d k) = ∑ d : Dev nD, ∑ k : Fin 8, oAck k d from Finset.sum_comm,
    show (∑ d : Dev nD, ∑ k : Fin 8, oRcv d k) = ∑ d : Dev nD, ∑ k : Fin 8, oRcv k d from Finset.sum_comm,
    show (∑ _d : Dev nD, ∑ k : Fin 8, oBar k) = ∑ d : Dev nD, ∑ _k : Fin 8, tallyAt (kcell (d, bar)) () 1 from Finset.sum_comm,
    add_comm]

theorem at_own (c : Dev nD) (x : Cl) (n : ℕ) (g : GSem nD τ sig) (h : g.1 ≠ (c.tc : Thread nD τ)) :
    (tallyAt (kcell (c, x)) () n : Tally) g = 0 := tallyAt_ne_cell (fun h1 => h (congrArg Prod.fst h1)) () n

theorem dueTo_own (c : Dev nD) (g : GSem nD τ sig) (h : dueTo c g ≠ 0) : g.1 = (c.tc : Thread nD τ) := by
  by_contra hne
  refine h ?_
  unfold dueTo
  rw [Pi.add_apply, Pi.add_apply, at_own _ _ _ _ hne, Finset.sum_apply, Finset.sum_apply, Finset.sum_eq_zero fun k _ => ?_,
    Finset.sum_eq_zero fun j _ => ?_, add_zero, add_zero]
  · unfold oRcv; split
    · exact at_own _ _ _ _ hne
    · rfl
  · unfold oAck; split
    · exact at_own _ _ _ _ hne
    · rfl

omit [FloatOps F] in
theorem cred_add' (a b : Tally) : (cred (a + b) : sProp 𝕄) = iprop(cred a ∗ cred b) :=
  BI.Entails.antisymm (cred_add _ _).1 (cred_add _ _).2

omit [FloatOps F] in
theorem cred_if (p : Prop) [Decidable p] (a : Tally) : (cred (if p then a else 0) : sProp 𝕄) = if p then cred a else iprop(emp) := by
  split
  · rfl
  · exact cred_zero

omit [FloatOps F] in
theorem creds (c : Dev nD) : (Pipeline.launchCred (fun d => OB d 0) c : sProp 𝕄)
    = iprop(cred (tallyAt (kcell (c, bar)) () 8)
      ∗ (bigSep Finset.univ fun k : Fin 8 => if c < k then cred (tallyAt (kcell (c, ack)) () 1) else iprop(emp))
      ∗ bigSep Finset.univ fun j : Fin 8 => if j < c then cred (tallyAt (kcell (c, rcv j)) () N) else iprop(emp)) := by
  rw [Pipeline.launchCred_of_sum _ dueTo owed_sum dueTo_own]
  unfold dueTo
  rw [cred_add', cred_add', Pipeline.cred_finsetSum, Pipeline.cred_finsetSum]
  simp only [oAck, oRcv, cred_if]

/-! ## The launch theorem's side conditions -/

omit [FloatOps F] in
theorem if_sep (p : Prop) [Decidable p] (A B : sProp 𝕄) :
    iprop((if p then A else iprop(emp)) ∗ B) ⊢ if p then iprop(A ∗ B) else iprop(emp) := by
  split
  · exact BI.Entails.refl _
  · iintro -; iempintro

omit [FloatOps F] in
theorem sep_if (p : Prop) [Decidable p] (A : sProp 𝕄) : A ⊢ if p then A else iprop(emp) := by
  split
  · exact BI.Entails.refl _
  · iintro -; iempintro

omit [FloatOps F] in
theorem sendIn_intro (c : Dev nD) : iprop((bigSep Finset.univ fun k : Fin 8 => dutyTok ER (kcell (c, snd k)) 0 0)
    ∗ bigSep Finset.univ fun k : Fin 8 => dutyTok ER (kcell (k, rcv c)) 0 0) ⊢ (sendIn c : sProp 𝕄) := by
  unfold sendIn; rw [← bigSep_sep']
  exact bigSep_mono fun k _ => sep_if _ _

omit [FloatOps F] in
theorem recvIn_intro (c : Dev nD) : iprop((bigSep Finset.univ fun j : Fin 8 => atPos ER (kcell (c, rcv j)) 0 ∅ 0)
    ∗ (bigSep Finset.univ fun j : Fin 8 => if j < c then cred (tallyAt (kcell (c, rcv j)) () N) else iprop(emp))
    ∗ bigSep Finset.univ fun j : Fin 8 => dutyTok ER (kcell (j, ack)) 0 c) ⊢ (recvIn c : sProp 𝕄) := by
  unfold recvIn; rw [← bigSep_sep', ← bigSep_sep']
  exact bigSep_mono fun j _ => sep_mono_right (if_sep _ _ _)

omit [FloatOps F] in
theorem finIn_intro (c : Dev nD) : iprop((bigSep Finset.univ fun k : Fin 8 => atPos ER (kcell (c, snd k)) 0 ∅ 0)
    ∗ bigSep Finset.univ fun k : Fin 8 => if c < k then cred (tallyAt (kcell (c, ack)) () 1) else iprop(emp)) ⊢ (finIn c : sProp 𝕄) := by
  unfold finIn; rw [← bigSep_sep']

theorem bodyIn_intro (c : Dev nD) :
    iprop(Pipeline.launchCred (fun d => OB d 0) c ∗ (bigSep Finset.univ fun x : Cl => atPos ER (kcell (c, x)) 0 ∅ 0) ∗ pays c)
      ⊢ (bodyIn c : sProp 𝕄) := by
  rw [creds, bigSep_cl]
  unfold pays bodyIn
  iintro ⟨⟨Hcb, Hca, Hcr⟩, ⟨Hb, Ha, Hs, Hr⟩, Hsig, Htack, Htsnd, Htrcv⟩
  isplitl [Hsig]; · iexact Hsig
  isplitl [Hcb Hb]
  · isplitl [Hcb] <;> iassumption
  isplitl [Htsnd Htrcv]
  · iapply (sendIn_intro (F := F) c); isplitl [Htsnd] <;> iassumption
  isplitl [Hr Hcr Htack]
  · iapply (recvIn_intro (F := F) c)
    isplitl [Hr]; · iexact Hr
    isplitl [Hcr] <;> iassumption
  isplitl [Hs Hca]
  · iapply (finIn_intro (F := F) c); isplitl [Hs] <;> iassumption
  iexact Ha

theorem start_intro (c : Dev nD) :
    iprop(Pipeline.unscopedRestP Pipeline.Prefetch.none cfg0.spec c (fun b => m ((c : Thread nD τ).loc b)) ∗ levAts L lv
        ∗ Pipeline.launchCred (fun d => OB d 0) c ∗ prngReg c (ρ c) ∗ G' m ρ c)
      ⊢ |={Set.univ}=> iprop(start m ρ c ∗ emp) := by
  unfold start G' records ctx
  iintro ⟨-, Hlev, Hcr, -, ⟨%K, HR, Hat, Hp⟩⟩
  imodintro
  isplitl
  · iexists K
    isplitl [HR Hlev]
    · isplitl [HR] <;> iassumption
    iapply (bodyIn_intro (F := F) c)
    isplitl [Hcr]; · iexact Hcr
    isplitl [Hat] <;> iassumption
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = bodyOut c from rfl, scopedRest0_eq]
  unfold bodyOut; rw [zeros_eq]
  iintro ⟨Hg, Hs, Hu, Ho⟩
  isplitl [Hu]; · iexact Hu
  isplitl [Ho]; · iexact Ho
  isplitl [Hg] <;> iassumption

theorem waits (c : Dev nD) : (levAts L lv : sProp 𝕄) ⊢ Pipeline.cellsWaits cfgs (dats m ρ) () 0 c :=
  Pipeline.cellsWaits_intro cfgs (dats m ρ) () 0 c fun w s t =>
    mayWait c _ 0 (by fin_cases w <;> fin_cases s <;> decide) (by
      rcases t with ⟨_ | _, ht⟩
      · exact above_OB c 0
      · exact above_zero 0)

/-! ## The run -/

/-- What window `w`'s array holds on device `c` at the end. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with zero counters, the program on all eight devices ends under every fair schedule; then each
    device's arrays hold the stated contents and all semaphore counters are zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := fun d => OB d 0) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_all m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument array at the end holds what it held. -/
theorem finalA_x (c : Dev nD) : finalA m ρ c (0 : Fin 2) = (s₀ m ρ).mem (win0_0.arr.view.loc (c : Thread nD τ)) :=
  (dats (F := F) m ρ 0 c).arrAt_in (0 : Fin 2) rfl _

/-- The program ends with its argument unchanged and all semaphore counters at zero. -/
theorem frame_run : θ_run defs (onTc (τ := τ) (main (F := F))) (s₀ m ρ) (fun r =>
    (∀ c : Dev nD, r.2.mem ((c.tc : Thread nD τ).loc main_arg0) = m ((c.tc : Thread nD τ).loc main_arg0)) ∧ r.2.sem = fun _ => 0) :=
  (θ_run defs _ _).mono (fun r h => ⟨fun c => (h.1 c (0 : Fin 2)).trans (finalA_x m ρ c), h.2⟩) (run_main m ρ)

end Cert.KernelIdealProof

end
-- ==== Proof.PrefixSum.lean ====
/-
# Prefix sums of an array cut into eight blocks

Facts about finite sums, with no program in them: a window of 4096 places that is padded below with 4095 zeros sums a
prefix; and a prefix of 4096 terms is a prefix of one block of 512 terms and all terms of the blocks before it.
-/
module

public import Mathlib.Algebra.BigOperators.Fin
public import Mathlib.Data.Fintype.BigOperators
public import Mathlib.Logic.Equiv.Fin.Basic
public import Mathlib.Algebra.Group.Fin.Basic
public import Mathlib.Algebra.Group.Units.Equiv

@[expose] public section

namespace Cert.PrefixSum

open scoped BigOperators

variable {R : Type} [AddCommMonoid R]

/-- A left fold that adds a term for each place is the start plus the sum of the terms. -/
theorem fold_add {n : ℕ} (g : Fin n → R) (v : R) :
    (List.finRange n).foldl (fun r k => r + g k) v = v + ∑ k, g k := by
  have h : ∀ (l : List (Fin n)) (v : R), l.foldl (fun r k => r + g k) v = v + (l.map g).sum := by
    intro l
    induction l with
    | nil => intro v; simp
    | cons a l ih => intro v; rw [List.foldl_cons, ih, List.map_cons, List.sum_cons, add_assoc]
  rw [h, Fin.sum_univ_def]

/-- The window's place `k` at position `j` is row `j + k - 4095` when there is such a row; over all `k` these are the
    rows up to `j`. -/
theorem window (f : ℕ → R) (j : Fin 4096) :
    (∑ k : Fin 4096, if 4095 ≤ j.val + k.val then f (j.val + k.val - 4095) else 0)
      = ∑ r : Fin 4096, if r.val ≤ j.val then f r.val else 0 := by
  let e : Fin 4096 ≃ Fin 4096 := Equiv.addRight (j + 1)
  refine Eq.trans ?_ (Equiv.sum_comp e fun r : Fin 4096 => if r.val ≤ j.val then f r.val else 0)
  refine Finset.sum_congr rfl fun k _ => ?_
  have hv : (e k).val = (k.val + (j.val + 1)) % 4096 := by
    show (k + (j + 1)).val = _
    simp only [Fin.val_add]
    omega
  have hj := j.isLt
  have hk := k.isLt
  by_cases h : 4095 ≤ j.val + k.val
  · have hv' : (e k).val = j.val + k.val - 4095 := by omega
    rw [if_pos h, hv', if_pos (by omega)]
  · have hv' : (e k).val = j.val + k.val + 1 := by omega
    rw [if_neg h, hv', if_neg (by omega)]

/-- Rows counted through the whole array are rows counted block by block. -/
theorem by_blocks (g : ℕ → R) : (∑ r : Fin 4096, g r.val) = ∑ a : Fin 8, ∑ b : Fin 512, g (a.val * 512 + b.val) := by
  rw [← Equiv.sum_comp (finProdFinEquiv (m := 8) (n := 512)) (fun r : Fin (8 * 512) => g r.val), Fintype.sum_prod_type]
  refine Finset.sum_congr rfl fun a _ => Finset.sum_congr rfl fun b _ => congrArg g ?_
  show b.val + 512 * a.val = _
  omega

/-- The prefix up to row `i` of block `c`: the rows up to `i` of block `c`, and all rows of the blocks before it. -/
theorem prefix_blocks (f : ℕ → R) (c : Fin 8) (i : Fin 512) :
    (∑ r : Fin 4096, if r.val ≤ c.val * 512 + i.val then f r.val else 0)
      = (∑ b : Fin 512, if b.val ≤ i.val then f (c.val * 512 + b.val) else 0)
        + ∑ a : Fin 8, if a < c then ∑ b : Fin 512, f (a.val * 512 + b.val) else 0 := by
  rw [by_blocks (fun r => if r ≤ c.val * 512 + i.val then f r else 0)]
  have hi := i.isLt
  have hsplit : ∀ a : Fin 8, (∑ b : Fin 512, if a.val * 512 + b.val ≤ c.val * 512 + i.val then f (a.val * 512 + b.val) else 0)
      = (if a = c then ∑ b : Fin 512, if b.val ≤ i.val then f (c.val * 512 + b.val) else 0 else 0)
        + if a < c then ∑ b : Fin 512, f (a.val * 512 + b.val) else 0 := by
    intro a
    rcases lt_trichotomy a c with h | h | h
    · have h' : a.val < c.val := h
      rw [if_neg h.ne, if_pos h, zero_add]
      exact Finset.sum_congr rfl fun b _ => if_pos (by have := b.isLt; omega)
    · subst h
      rw [if_pos rfl, if_neg (lt_irrefl _), add_zero]
      refine Finset.sum_congr rfl fun b _ => ?_
      by_cases hb : b.val ≤ i.val
      · rw [if_pos hb, if_pos (by omega)]
      · rw [if_neg hb, if_neg (by omega)]
    · have h' : c.val < a.val := h
      rw [if_neg h.ne', if_neg (not_lt.mpr h.le), add_zero]
      exact Finset.sum_eq_zero fun b _ => if_neg (by have := b.isLt; omega)
  rw [Finset.sum_congr rfl fun a _ => hsplit a, Finset.sum_add_distrib, Finset.sum_ite_eq' Finset.univ c, if_pos (Finset.mem_univ _)]

end Cert.PrefixSum
-- ==== Proof.KernelIdealValue.lean ====
/-
# The prefix sum over the reals

What the reference computes at an entry, what device `c` computes at an entry, and that device `c`'s block of the first
is the second.
-/
module

public import proofs.«01_k».proof.Proof.KernelIdealRun
public import proofs.«01_k».proof.Proof.PrefixSum
public import proofs.«01_k».proof.Proof.Gen.ReferenceIdeal
public import Idealize.ShloMosaic.Lib.Layout
public import Idealize.ShloMosaic.Lib.MatmulPlain
public import Idealize.ShloMosaic.Lib.IdealHost
public import Idealize.ShloMosaic.Lib.ValueIdx
public import Idealize.ShloMosaic.Lib.ValueIdxCoords
public import Idealize.ShloMosaic.Lib.WordCmp
public import Idealize.ShloMosaic.Lib.Pipeline.ValueKit.Geometry

@[expose] public section

noncomputable section

namespace Cert.KernelIdealProof

open Cert.KernelIdeal Cert.KernelIdeal.Gen

open Idealize.ShloMosaic
open Idealize.ShloMosaic.TcCoe
open Idealize.ShloMosaic.ValueIdx
open Idealize.SL.Sem
open scoped BigOperators

/-! ## The reference -/

/-- Column `l` of a whole array, by row number. -/
def col (X : (⟨2, ![4096, 512]⟩ : Shape).Idx → EReal) (l : Fin 512) (r : ℕ) : EReal := if h : r < 4096 then X (ix2 ⟨r, h⟩ l) else 0

/-- What the reference computes: each entry is the sum of its column down to its row. -/
def psum (X : (⟨2, ![4096, 512]⟩ : Shape).Idx → EReal) : (⟨2, ![4096, 512]⟩ : Shape).Idx → EReal :=
  fun j => ∑ r : Fin 4096, if r.val ≤ (j 0).val then col X (j 1) r.val else 0

theorem zero_init (i : (⟨0, ![]⟩ : Shape).Idx) :
    (broadcastInDim Cert.ReferenceIdeal.S_ ![] Cert.ReferenceIdeal.Gen.bcast_S_S_
      (constant (F := Ideal) Cert.ReferenceIdeal.S_ .f32 0x00000000#32) : (⟨0, ![]⟩ : Shape).Idx → EReal) i = 0 := by
  show Ideal.ofBits .f32 0x00000000#32 = 0
  simp

/-- A windowed sum, as a sum over the window's places. -/
theorem reduceWindow_sum {s t u : Shape} (window strides lo hi : Fin s.rank → Nat) (x : s.Idx → EReal) (init : u.Idx → EReal)
    (h : s.ReduceWindows window strides lo hi t) (hu : 0 < u.numel) (h0 : init (Shape.Idx.first hu) = 0) (j : t.Idx) :
    Host.reduceWindow (· + ·) window strides lo hi x init h hu j
      = ∑ q : (⟨s.rank, window⟩ : Shape).Idx,
          if hin : ∀ a, lo a ≤ (j (a.cast h.1.symm)).val * strides a + (q a).val
              ∧ (j (a.cast h.1.symm)).val * strides a + (q a).val - lo a < s.size a
          then x (fun a => ⟨(j (a.cast h.1.symm)).val * strides a + (q a).val - lo a, (hin a).2⟩) else 0 := by
  unfold Host.reduceWindow
  dsimp only
  rw [PrefixSum.fold_add, h0, zero_add]
  refine Eq.trans (Finset.sum_congr rfl fun n _ => ?_) (Equiv.sum_comp (⟨s.rank, window⟩ : Shape).rowMajor.symm (fun q : (⟨s.rank, window⟩ : Shape).Idx =>
    if hin : ∀ a, lo a ≤ (j (a.cast h.1.symm)).val * strides a + (q a).val
        ∧ (j (a.cast h.1.symm)).val * strides a + (q a).val - lo a < s.size a
    then x (fun a => ⟨(j (a.cast h.1.symm)).val * strides a + (q a).val - lo a, (hin a).2⟩) else 0))
  exact dite_congr rfl (fun _ => rfl) (fun _ => rfl)

/-- A window of `w` rows and one column, padded `p` rows above. -/
theorem colWindow_sum {n m w p : ℕ} {u : Shape} (x : (⟨2, ![n, m]⟩ : Shape).Idx → EReal) (init : u.Idx → EReal)
    (h : (⟨2, ![n, m]⟩ : Shape).ReduceWindows (![w, 1] : Fin 2 → ℕ) ![1, 1] ![p, 0] ![0, 0] ⟨2, ![n, m]⟩) (hu : 0 < u.numel)
    (h0 : init (Shape.Idx.first hu) = 0) (a : Fin n) (l : Fin m) :
    Host.reduceWindow (s := ⟨2, ![n, m]⟩) (t := ⟨2, ![n, m]⟩) (· + ·) (![w, 1] : Fin 2 → ℕ) ![1, 1] ![p, 0] ![0, 0] x init h hu (ix2 a l)
      = ∑ k : Fin w, if hin : p ≤ a.val + k.val ∧ a.val + k.val - p < n then x (ix2 ⟨a.val + k.val - p, hin.2⟩ l) else 0 := by
  rw [reduceWindow_sum _ _ _ _ x init h hu h0]
  refine (sum_idx2 (n0 := w) (n1 := 1) _).trans (Finset.sum_congr rfl fun k _ => ?_)
  rw [Fin.sum_univ_one]
  by_cases hk : p ≤ a.val + k.val ∧ a.val + k.val - p < n
  · have hin : ∀ b : Fin 2, (![p, 0] : Fin 2 → ℕ) b ≤ ((ix2 a l : (⟨2, ![n, m]⟩ : Shape).Idx) b).val * (![1, 1] : Fin 2 → ℕ) b + ((ix2 k (0 : Fin 1) : (⟨2, ![w, 1]⟩ : Shape).Idx) b).val
        ∧ ((ix2 a l : (⟨2, ![n, m]⟩ : Shape).Idx) b).val * (![1, 1] : Fin 2 → ℕ) b + ((ix2 k (0 : Fin 1) : (⟨2, ![w, 1]⟩ : Shape).Idx) b).val - (![p, 0] : Fin 2 → ℕ) b < (![n, m] : Fin 2 → ℕ) b := by
      intro b
      match b with
      | ⟨0, _⟩ =>
        show p ≤ a.val * 1 + k.val ∧ a.val * 1 + k.val - p < n
        rw [Nat.mul_one]; exact hk
      | ⟨1, _⟩ =>
        show 0 ≤ l.val * 1 + 0 ∧ l.val * 1 + 0 - 0 < m
        have := l.isLt
        omega
    rw [dif_pos hk]
    refine (dif_pos hin).trans (congrArg x (funext fun b => Fin.ext ?_))
    match b with
    | ⟨0, _⟩ =>
      show a.val * 1 + k.val - p = a.val + k.val - p
      rw [Nat.mul_one]
    | ⟨1, _⟩ =>
      show l.val * 1 + 0 - 0 = l.val
      omega
  · rw [dif_neg hk]
    refine dif_neg fun hin => hk ?_
    have h' : p ≤ a.val * 1 + k.val ∧ a.val * 1 + k.val - p < n := hin 0
    rwa [Nat.mul_one] at h'

/-- The windowed sum of the reference is that. -/
theorem ref_psum (X : (⟨2, ![4096, 512]⟩ : Shape).Idx → EReal) :
    (Host.reduceWindowAdd (F := Ideal) (φ := .f32) ![4096, 1] ![1, 1] ![4095, 0] ![0, 0] X
      (broadcastInDim Cert.ReferenceIdeal.S_ ![] Cert.ReferenceIdeal.Gen.bcast_S_S_ (constant Cert.ReferenceIdeal.S_ .f32 0x00000000#32))
      Cert.ReferenceIdeal.Gen.reduceWindows_S4096x512_S4096x512_w4096s1p4095_0_w1s1p0_0 Cert.ReferenceIdeal.Gen.h_S_) = psum X := by
  funext j
  unfold Host.reduceWindowAdd
  rw [Ideal.hostReduceWindowAdd_def, zero_init]
  unfold Ideal.hostReduceWindowAdd
  obtain ⟨a, l, rfl⟩ : ∃ (a : Fin 4096) (l : Fin 512), j = ix2 a l := ⟨j 0, j 1, eq_ix2 (n0 := 4096) (n1 := 512) j⟩
  refine (colWindow_sum (n := 4096) (m := 512) (w := 4096) (p := 4095) X _ _ _ rfl a l).trans ?_
  refine Eq.trans (Finset.sum_congr rfl fun k _ => ?_) (PrefixSum.window (col X l) a)
  have ha := a.isLt
  have hk := k.isLt
  unfold col
  by_cases h : 4095 ≤ a.val + k.val
  · rw [if_pos h, dif_pos ⟨h, by omega⟩, dif_pos (by omega)]
  · rw [if_neg h, dif_neg (fun h' => h h'.1)]

/-! ## The payloads at an entry -/

theorem zero_word : Ideal.ofBits .f32 0x00000000#32 = 0 := by simp

/-- A column's sum, kept as a one-row array. -/
theorem row_sum {n : ℕ} (x : FVec Ideal ⟨2, ![n, 512]⟩ .f32) (h : (⟨2, ![n, 512]⟩ : Shape).Reduces [0] ⟨1, ![512]⟩)
    (hφ : FKind.Formats .f32) (hacc : (0x00000000#32 : BitVec 32) = FKind.add.neutral .f32 hφ)
    (hc : (⟨1, ![512]⟩ : Shape).ShapeCasts ⟨2, ![1, 512]⟩) (l : Fin 512) :
    (shapeCast ⟨2, ![1, 512]⟩ (multiReduction (F := Ideal) (s := ⟨2, ![n, 512]⟩) .add [0] ⟨1, ![512]⟩ x 0x00000000#32 h hφ hacc) hc : FVec Ideal ⟨2, ![1, 512]⟩ .f32) (ix2 (0 : Fin 1) l)
      = ∑ k : Fin n, x (ix2 k l) := by
  rw [shapeCast_apply _ hc (ix2 (0 : Fin 1) l) (ix1 l) (by rw [Shape.rowMajor_val_one, Shape.rowMajor_val_two]; simp),
    Ideal.multiReduction_add_single]
  refine Finset.sum_congr rfl fun k _ => congrArg x (funext fun b => Fin.ext ?_)
  match b with
  | ⟨0, _⟩ => rfl
  | ⟨1, _⟩ => rfl

theorem pay2_at (x : FVec Ideal S512x512 .f32) (l : Fin 512) : k0_pay2 (F := Ideal) x (ix2 (0 : Fin 1) l) = ∑ k : Fin 512, x (ix2 k l) := by
  unfold k0_pay2 k0_pay1
  dsimp only
  rw [shapeCast_self, shapeCast_self]
  exact row_sum (n := 512) x _ _ _ _ l

/-- The triangle's entry. -/
theorem tri_at (r k : Fin 512) :
    (truncf (F := Ideal) .bf16 (sitofp .f32 (extui 32 (cmpi .sle (iota .tc S512x512 32 [1] iota_S512x512_d1_w32) (iota .tc S512x512 32 [0] iota_S512x512_d0_w32)) natLt_1_32) : FVec Ideal S512x512 .f32) bitsLt_bf16_f32 : FVec Ideal S512x512 .bf16) (ix2 r k)
      = if k.val ≤ r.val then 1 else 0 := by
  show (((((IntOp.cmpi .sle (BitVec.ofNat 32 (0 * 512 + k.val)) (BitVec.ofNat 32 (0 * 512 + r.val))).setWidth 32 : BitVec 32).toInt : ℤ) : ℝ) : EReal) = _
  have hr := r.isLt
  have hk := k.isLt
  rw [Nat.zero_mul, Nat.zero_add, Nat.zero_add, WordCmp.cmpi_sle_ofNat (by omega) (by omega)]
  by_cases h : k.val ≤ r.val
  · rw [if_pos h]; simp [h]
  · rw [if_neg h]; simp [h]

theorem pay3_at (x : FVec Ideal S512x512 .f32) (r l : Fin 512) :
    k0_pay3 (F := Ideal) x (ix2 r l) = ∑ k : Fin 512, if k.val ≤ r.val then x (ix2 k l) else 0 := by
  unfold k0_pay3
  dsimp only
  refine (Ideal.matmul_plain_apply (M := 512) (K := 512) (N := 512) none _ _ _ r l).trans ?_
  rw [show (constant (F := Ideal) S512x512 .f32 0x00000000#32 : FVec Ideal S512x512 .f32) (ix2 r l) = 0 from zero_word, zero_add]
  refine Finset.sum_congr rfl fun k _ => ?_
  rw [tri_at r k, truncf_apply]
  by_cases h : k.val ≤ r.val
  · rw [if_pos h, if_pos h, one_mul]
  · rw [if_neg h, if_neg h, zero_mul]

theorem pay5_at (c : Dev nD) (g : FVec Ideal S8x512 .f32) (a : FVec Ideal S512x512 .f32) (r l : Fin 512) :
    k0_pay5 (F := Ideal) (k0_pay4 (vdev c)) g a (ix2 r l) = a (ix2 r l) + ∑ j : Fin 8, if j < c then g (ix2 j l) else 0 := by
  unfold k0_pay5
  dsimp only
  rw [addf_apply, shapeCast_self]
  congr 1
  rw [broadcastTo_apply _ _ (ix2 r l) (ix2 (0 : Fin 1) l) (by intro b; match b with | ⟨0, _⟩ => rfl | ⟨1, _⟩ => rfl)]
  refine (row_sum (n := 8) _ _ _ _ _ l).trans (Finset.sum_congr rfl fun j _ => ?_)
  rw [ValueIdx.select_apply, mask_at]
  show Scalar.select (if j < c then 1#1 else 0#1) (g (ix2 j l)) _ = _
  by_cases h : j < c
  · rw [if_pos h, if_pos h]; rfl
  · rw [if_neg h, if_neg h]; exact zero_word

/-! ## A device's result -/

variable (m : (ℓ : Loc nD τ sig) → Buf (Elt Ideal) ℓ) (ρ : Dev nD → PrngReg)

/-- The argument on device `c`, as an array of numbers. -/
def arg (c : Dev nD) : FVec Ideal S512x512 .f32 := m ((c.tc : Thread nD τ).loc main_arg0)

/-- What a device stages is its block of the argument. -/
theorem xstg_at (c : Dev nD) (r l : Fin 512) :
    xstg m ρ c (ix2 r l) = arg m c (ix2 r l) := by
  unfold xstg
  refine congrArg (m ((c.tc : Thread nD τ).loc main_arg0)) (funext fun b => Fin.ext ?_)
  match b with
  | ⟨0, _⟩ => show 0 * 512 + 1 * r.val = r.val; omega
  | ⟨1, _⟩ => show 0 * 512 + 1 * l.val = l.val; omega

theorem outAt_at (c : Dev nD) (r l : Fin 512) :
    outAt m ρ c (ix2 r l)
      = (∑ k : Fin 512, if k.val ≤ r.val then arg m c (ix2 k l) else 0)
        + ∑ j : Fin 8, if j < c then ∑ k : Fin 512, arg m j (ix2 k l) else 0 := by
  unfold outAt
  refine (pay5_at c _ _ r l).trans ?_
  rw [pay3_at]
  refine congrArg₂ (· + ·) (Finset.sum_congr rfl fun k _ => ?_) (Finset.sum_congr rfl fun j _ => ?_)
  · refine if_congr Iff.rfl ?_ rfl
    unfold k0_pay1
    rw [shapeCast_self]
    exact xstg_at m ρ c k l
  · refine if_congr Iff.rfl ?_ rfl
    show k0_pay2 (xstg m ρ j) (ix2 (0 : Fin 1) l) = _
    rw [pay2_at]
    exact Finset.sum_congr rfl fun k _ => xstg_at m ρ j k l

/-- Device `c`'s result is block `c` of the whole column sums. -/
theorem outAt_block (X : (⟨2, ![4096, 512]⟩ : Shape).Idx → EReal)
    (hX : ∀ c : Dev nD, m ((c.tc : Thread nD τ).loc main_arg0) = Layout.block ⟨2, ![512, 512]⟩ ⟨2, ![4096, 512]⟩ 0 8 c X) (c : Dev nD) :
    outAt m ρ c = Layout.block ⟨2, ![512, 512]⟩ ⟨2, ![4096, 512]⟩ 0 8 c (psum X) := by
  have hcol : ∀ (j : Fin 8) (k l : Fin 512), arg m j (ix2 k l) = col X l (j.val * 512 + k.val) := by
    intro j k l
    have hj := j.isLt
    have hk := k.isLt
    rw [show arg m j = _ from hX j]
    unfold col
    rw [dif_pos (by omega)]
    refine congrArg X (funext fun b => Fin.ext ?_)
    match b with
    | ⟨0, _⟩ => rfl
    | ⟨1, _⟩ => rfl
  funext i
  obtain ⟨r, l, rfl⟩ : ∃ (r l : Fin 512), i = ix2 r l := ⟨i 0, i 1, eq_ix2 (n0 := 512) (n1 := 512) i⟩
  refine (outAt_at m ρ c r l).trans ?_
  simp only [hcol]
  exact (PrefixSum.prefix_blocks (col X l) c r).symm

/-- What the result array holds at the end. -/
theorem finalA_out (c : Dev nD) : finalA m ρ c (1 : Fin 2) = outAt m ρ c := by
  refine (dats m ρ 0 c).arrAt_eq_of_covers (1 : Fin 2) (outAt m ρ c) (by decide +kernel) ?_
  intro t _ y
  obtain rfl := fin_N0 t
  refine congrArg (outAt m ρ c) (funext fun b => Fin.ext ?_)
  match b with
  | ⟨0, _⟩ => show (y (0 : Fin 2)).val = 0 * 512 + 1 * (y (0 : Fin 2)).val; omega
  | ⟨1, _⟩ => show (y (1 : Fin 2)).val = 0 * 512 + 1 * (y (1 : Fin 2)).val; omega

end Cert.KernelIdealProof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelRun
public import proofs.«01_k».proof.Proof.KernelIdealRun
public import proofs.«01_k».proof.Proof.KernelIdealValue
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference ends with its argument unchanged and, having no semaphore, with every counter at zero. -/
theorem reference_quiet : quiescent_ReferenceIdeal (hReferenceIdeal := Cert.ReferenceIdeal.Gen.facts) := fun m g _ =>
  (θ_run _ _ _).mono (fun r h => ⟨fun c => (h c).2, sem_eq_zero_of_no_sems (by decide) _⟩) (Cert.ReferenceIdeal.Value.run m g)

/-- Device `c` ends with block `c` of the column sums the reference ends with. -/
theorem same_sums : algebraic_KernelIdeal_ReferenceIdeal (hKernelIdeal := Cert.KernelIdeal.Gen.facts)
    (hReferenceIdeal := Cert.ReferenceIdeal.Gen.facts) := fun m g m' g' _ hX =>
  ⟨Cert.KernelIdealProof.psum (m' (((0 : Dev Cert.ReferenceIdeal.nD).tc : Thread Cert.ReferenceIdeal.nD Cert.ReferenceIdeal.τ).loc Cert.ReferenceIdeal.main_arg0)),
    (θ_run _ _ _).mono (fun r h c =>
        ⟨(h.1 c (1 : Fin 2)).trans ((Cert.KernelIdealProof.finalA_out m g c).trans (Cert.KernelIdealProof.outAt_block m g _ hX c)),
          (h.1 c (0 : Fin 2)).trans (Cert.KernelIdealProof.finalA_x m g c)⟩)
      (Cert.KernelIdealProof.run_main m g),
    (θ_run _ _ _).mono (fun r h => ⟨(h 0).1.trans (Cert.KernelIdealProof.ref_psum _), (h 0).2⟩) (Cert.ReferenceIdeal.Value.run m' g')⟩

theorem claim : Cert.Claim := ⟨Cert.Kernel.Gen.facts, Cert.KernelIdeal.Gen.facts, Cert.ReferenceIdeal.Gen.facts,
  fun m g _ => Cert.KernelProof.frame_run m g, fun m g _ => Cert.KernelIdealProof.frame_run m g, reference_quiet, trivial, same_sums⟩

end Cert.Proof

end
